-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x64x64 : Shape := ⟨4, ![16, 256, 64, 64]⟩
abbrev S16x512x32x32 : Shape := ⟨4, ![16, 512, 32, 32]⟩
abbrev S16x1024x16x16 : Shape := ⟨4, ![16, 1024, 16, 16]⟩
abbrev S255x256x1x1 : Shape := ⟨4, ![255, 256, 1, 1]⟩
abbrev S255 : Shape := ⟨1, ![255]⟩
abbrev S255x512x1x1 : Shape := ⟨4, ![255, 512, 1, 1]⟩
abbrev S255x1024x1x1 : Shape := ⟨4, ![255, 1024, 1, 1]⟩
abbrev S16x256x4096 : Shape := ⟨3, ![16, 256, 4096]⟩
abbrev S16x512x1024 : Shape := ⟨3, ![16, 512, 1024]⟩
abbrev S16x1024x256 : Shape := ⟨3, ![16, 1024, 256]⟩
abbrev S255x256 : Shape := ⟨2, ![255, 256]⟩
abbrev S255x512 : Shape := ⟨2, ![255, 512]⟩
abbrev S255x1024 : Shape := ⟨2, ![255, 1024]⟩
abbrev S255x1 : Shape := ⟨2, ![255, 1]⟩
abbrev S16x255x4096 : Shape := ⟨3, ![16, 255, 4096]⟩
abbrev S16x255x1024 : Shape := ⟨3, ![16, 255, 1024]⟩
abbrev S16x255x256 : Shape := ⟨3, ![16, 255, 256]⟩
abbrev S3x256x4096 : Shape := ⟨3, ![3, 256, 4096]⟩
abbrev S3x255x4096 : Shape := ⟨3, ![3, 255, 4096]⟩
abbrev S3 : Shape := ⟨1, ![3]⟩
abbrev S3x512x1024 : Shape := ⟨3, ![3, 512, 1024]⟩
abbrev S3x255x1024 : Shape := ⟨3, ![3, 255, 1024]⟩
abbrev S3x1024x256 : Shape := ⟨3, ![3, 1024, 256]⟩
abbrev S3x255x256 : Shape := ⟨3, ![3, 255, 256]⟩
abbrev S6 : Shape := ⟨1, ![6]⟩
abbrev S1 : Shape := ⟨1, ![1]⟩
abbrev S_ : Shape := ⟨0, ![]⟩
abbrev S1x256x4096 : Shape := ⟨3, ![1, 256, 4096]⟩
abbrev S256x4096 : Shape := ⟨2, ![256, 4096]⟩
abbrev S255x4096 : Shape := ⟨2, ![255, 4096]⟩
abbrev S1x255x4096 : Shape := ⟨3, ![1, 255, 4096]⟩
abbrev S1x512x1024 : Shape := ⟨3, ![1, 512, 1024]⟩
abbrev S512x1024 : Shape := ⟨2, ![512, 1024]⟩
abbrev S1x255x1024 : Shape := ⟨3, ![1, 255, 1024]⟩
abbrev S1x1024x256 : Shape := ⟨3, ![1, 1024, 256]⟩
abbrev S1024x256 : Shape := ⟨2, ![1024, 256]⟩
abbrev S1x255x256 : Shape := ⟨3, ![1, 255, 256]⟩
abbrev S16x255x64x64 : Shape := ⟨4, ![16, 255, 64, 64]⟩
abbrev S16x255x32x32 : Shape := ⟨4, ![16, 255, 32, 32]⟩
abbrev S16x255x16x16 : Shape := ⟨4, ![16, 255, 16, 16]⟩

abbrev nBuf : Space → Nat
  | .hbm => 24
  | .vmem => 12
  | .smem => 0
  | _ => 0

abbrev bufTy : (tb : Table) → Fin (tcTables nBuf tb) → BufTy
  | .hbm, ⟨0, _⟩ => ⟨S16x256x64x64, .f32⟩
  | .hbm, ⟨1, _⟩ => ⟨S16x512x32x32, .f32⟩
  | .hbm, ⟨2, _⟩ => ⟨S16x1024x16x16, .f32⟩
  | .hbm, ⟨3, _⟩ => ⟨S255x256x1x1, .f32⟩
  | .hbm, ⟨4, _⟩ => ⟨S255, .f32⟩
  | .hbm, ⟨5, _⟩ => ⟨S255x512x1x1, .f32⟩
  | .hbm, ⟨6, _⟩ => ⟨S255, .f32⟩
  | .hbm, ⟨7, _⟩ => ⟨S255x1024x1x1, .f32⟩
  | .hbm, ⟨8, _⟩ => ⟨S255, .f32⟩
  | .hbm, ⟨9, _⟩ => ⟨S16x256x4096, .f32⟩
  | .hbm, ⟨10, _⟩ => ⟨S16x512x1024, .f32⟩
  | .hbm, ⟨11, _⟩ => ⟨S16x1024x256, .f32⟩
  | .hbm, ⟨12, _⟩ => ⟨S255x256, .f32⟩
  | .hbm, ⟨13, _⟩ => ⟨S255x512, .f32⟩
  | .hbm, ⟨14, _⟩ => ⟨S255x1024, .f32⟩
  | .hbm, ⟨15, _⟩ => ⟨S255x1, .f32⟩
  | .hbm, ⟨16, _⟩ => ⟨S255x1, .f32⟩
  | .hbm, ⟨17, _⟩ => ⟨S255x1, .f32⟩
  | .hbm, ⟨18, _⟩ => ⟨S16x255x4096, .f32⟩
  | .hbm, ⟨19, _⟩ => ⟨S16x255x1024, .f32⟩
  | .hbm, ⟨20, _⟩ => ⟨S16x255x256, .f32⟩
  | .hbm, ⟨21, _⟩ => ⟨S16x255x64x64, .f32⟩
  | .hbm, ⟨22, _⟩ => ⟨S16x255x32x32, .f32⟩
  | .hbm, ⟨23, _⟩ => ⟨S16x255x16x16, .f32⟩
  | .local _ .vmem, ⟨0, _⟩ => ⟨S3x256x4096, .f32⟩
  | .local _ .vmem, ⟨1, _⟩ => ⟨S3x255x4096, .f32⟩
  | .local _ .vmem, ⟨2, _⟩ => ⟨S255x256, .f32⟩
  | .local _ .vmem, ⟨3, _⟩ => ⟨S255x1, .f32⟩
  | .local _ .vmem, ⟨4, _⟩ => ⟨S3x512x1024, .f32⟩
  | .local _ .vmem, ⟨5, _⟩ => ⟨S3x255x1024, .f32⟩
  | .local _ .vmem, ⟨6, _⟩ => ⟨S255x512, .f32⟩
  | .local _ .vmem, ⟨7, _⟩ => ⟨S255x1, .f32⟩
  | .local _ .vmem, ⟨8, _⟩ => ⟨S3x1024x256, .f32⟩
  | .local _ .vmem, ⟨9, _⟩ => ⟨S3x255x256, .f32⟩
  | .local _ .vmem, ⟨10, _⟩ => ⟨S255x1024, .f32⟩
  | .local _ .vmem, ⟨11, _⟩ => ⟨S255x1, .f32⟩
  | _, _ => ⟨S16x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_scratch9 : Ref sig .tc := ⟨.vmem, 7, rfl⟩
abbrev cc0_scratch12 : Ref sig .tc := ⟨.vmem, 8, rfl⟩
abbrev cc0_scratch13 : Ref sig .tc := ⟨.vmem, 9, rfl⟩
abbrev cc0_scratch14 : Ref sig .tc := ⟨.vmem, 10, rfl⟩
abbrev cc0_scratch15 : Ref sig .tc := ⟨.vmem, 11, rfl⟩

abbrev nD : Nat := 1
abbrev τ : Topo := Topo.v7x

variable {F : FTy → Type} [FloatOps F]

abbrev grid0 : Pipeline.Grid := .none
-- ==== ReferenceIdeal.lean ====
abbrev S16x256x64x64 : Shape := ⟨4, ![16, 256, 64, 64]⟩
abbrev S16x512x32x32 : Shape := ⟨4, ![16, 512, 32, 32]⟩
abbrev S16x1024x16x16 : Shape := ⟨4, ![16, 1024, 16, 16]⟩
abbrev S255x256x1x1 : Shape := ⟨4, ![255, 256, 1, 1]⟩
abbrev S255 : Shape := ⟨1, ![255]⟩
abbrev S255x512x1x1 : Shape := ⟨4, ![255, 512, 1, 1]⟩
abbrev S255x1024x1x1 : Shape := ⟨4, ![255, 1024, 1, 1]⟩
abbrev S255x256 : Shape := ⟨2, ![255, 256]⟩
abbrev S255x16x64x64 : Shape := ⟨4, ![255, 16, 64, 64]⟩
abbrev S16x255x64x64 : Shape := ⟨4, ![16, 255, 64, 64]⟩
abbrev S1x255x1x1 : Shape := ⟨4, ![1, 255, 1, 1]⟩
abbrev S255x512 : Shape := ⟨2, ![255, 512]⟩
abbrev S255x16x32x32 : Shape := ⟨4, ![255, 16, 32, 32]⟩
abbrev S16x255x32x32 : Shape := ⟨4, ![16, 255, 32, 32]⟩
abbrev S255x1024 : Shape := ⟨2, ![255, 1024]⟩
abbrev S255x16x16x16 : Shape := ⟨4, ![255, 16, 16, 16]⟩
abbrev S16x255x16x16 : Shape := ⟨4, ![16, 255, 16, 16]⟩

abbrev nBuf : Space → Nat
  | .hbm => 27
  | .vmem => 0
  | .smem => 0
  | _ => 0

abbrev bufTy : (tb : Table) → Fin (tcTables nBuf tb) → BufTy
  | .hbm, ⟨0, _⟩ => ⟨S16x256x64x64, .f32⟩
  | .hbm, ⟨1, _⟩ => ⟨S16x512x32x32, .f32⟩
  | .hbm, ⟨2, _⟩ => ⟨S16x1024x16x16, .f32⟩
  | .hbm, ⟨3, _⟩ => ⟨S255x256x1x1, .f32⟩
  | .hbm, ⟨4, _⟩ => ⟨S255, .f32⟩
  | .hbm, ⟨5, _⟩ => ⟨S255x512x1x1, .f32⟩
  | .hbm, ⟨6, _⟩ => ⟨S255, .f32⟩
  | .hbm, ⟨7, _⟩ => ⟨S255x1024x1x1, .f32⟩
  | .hbm, ⟨8, _⟩ => ⟨S255, .f32⟩
  | .hbm, ⟨9, _⟩ => ⟨S255x256, .f32⟩
  | .hbm, ⟨10, _⟩ => ⟨S255x16x64x64, .f32⟩
  | .hbm, ⟨11, _⟩ => ⟨S16x255x64x64, .f32⟩
  | .hbm, ⟨12, _⟩ => ⟨S1x255x1x1, .f32⟩
  | .hbm, ⟨13, _⟩ => ⟨S16x255x64x64, .f32⟩
  | .hbm, ⟨14, _⟩ => ⟨S16x255x64x64, .f32⟩
  | .hbm, ⟨15, _⟩ => ⟨S255x512, .f32⟩
  | .hbm, ⟨16, _⟩ => ⟨S255x16x32x32, .f32⟩
  | .hbm, ⟨17, _⟩ => ⟨S16x255x32x32, .f32⟩
  | .hbm, ⟨18, _⟩ => ⟨S1x255x1x1, .f32⟩
  | .hbm, ⟨19, _⟩ => ⟨S16x255x32x32, .f32⟩
  | .hbm, ⟨20, _⟩ => ⟨S16x255x32x32, .f32⟩
  | .hbm, ⟨21, _⟩ => ⟨S255x1024, .f32⟩
  | .hbm, ⟨22, _⟩ => ⟨S255x16x16x16, .f32⟩
  | .hbm, ⟨23, _⟩ => ⟨S16x255x16x16, .f32⟩
  | .hbm, ⟨24, _⟩ => ⟨S1x255x1x1, .f32⟩
  | .hbm, ⟨25, _⟩ => ⟨S16x255x16x16, .f32⟩
  | .hbm, ⟨26, _⟩ => ⟨S16x255x16x16, .f32⟩
  | _, _ => ⟨S16x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Stream.lean ====
/-
  One scale of the kernel, as a stream of sixteen images through two rings of three VMEM slots.

  The kernel treats its three scales alike: image `i` is copied from HBM into input slot `i % 3`, multiplied by the
  weights into output slot `i % 3`, and copied from there to its place in the result. Two inputs are in flight at a
  time, and up to three results. This module states that program once, over abstract memrefs (`Scale`), and proves once
  what a scale does to the memory (`wp_run`): every image of the operand stays, every image of the result holds what the
  hypothesis `hY` says, every semaphore is back at zero. The two programs of the certificate use it at three scales each.
-/
module

public import Idealize.ShloMosaic.Lib.Pipeline.Kit
public import Idealize.ShloMosaic.Lib.Pipeline.FrameSuffixV
public import Idealize.ShloMosaic.Lib.Ring
public import Idealize.ShloMosaic.Lib.Tactic

@[expose] public section

noncomputable section

namespace Cert.Proof.Stream

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)

/-! ## The program of one scale -/

/-- The slot of image `i`. -/
abbrev slot (i : Fin 16) : Fin 3 := ⟨i.val % 3, Nat.mod_lt _ (by decide)⟩

/-- What one scale's program names: the images of its operand (`xg`) and of its result (`og`) in HBM, the two ring
    buffers (`xb`, `ob`) with the rectangle of each slot (`rx`, `ro`), the weights and the bias in VMEM (`wb`, `bb`), a
    DMA semaphore per slot and direction, and the value computed of a slot (`pay`). -/
structure Scale (sig : RefSig) (Val : EltTy → Type) where
  {sx3 sx so3 so sw sb : Shape}
  xg : Fin 16 → Memref sig .tc .hbm sx .f32
  og : Fin 16 → Memref sig .tc .hbm so .f32
  xb : Memref sig .tc .vmem sx3 .f32
  ob : Memref sig .tc .vmem so3 .f32
  wb : Memref sig .tc .vmem sw .f32
  bb : Memref sig .tc .vmem sb .f32
  rx : Fin 3 → Rect sx3
  ro : Fin 3 → Rect so3
  rw : Rect sw
  rb : Rect sb
  rx1 : ∀ s a, (rx s).stride a = 1
  ro1 : ∀ s a, (ro s).stride a = 1
  sqx : ∀ s, (rx s).shape.Squeezes sx
  sqo : ∀ s, (ro s).shape.Squeezes so
  isem : Fin 3 → DmaSem sig
  osem : Fin 3 → DmaSem sig
  pay : (s : Fin 3) → (rw.shape.Idx → Val .f32) → ((rx s).shape.Idx → Val .f32) → (rb.shape.Idx → Val .f32) →
    (ro s).shape.Idx → Val .f32
  wxg : ∀ i, (xg i).view.WordExact
  wog : ∀ i, (og i).view.WordExact
  wxs : ∀ s, ((xb.slice (rx s) (rx1 s)).squeeze sx (sqx s)).view.WordExact
  wos : ∀ s, ((ob.slice (ro s) (ro1 s)).squeeze so (sqo s)).view.WordExact
  lw : wb.view.LoadsAt rw
  lb : bb.view.LoadsAt rb
  lx : ∀ s, xb.view.LoadsAt (rx s)
  lo : ∀ s, ob.view.LoadsAt (ro s)
  sto : ∀ s, (ob.access (ro s)).Stores Finset.univ
  posx : 0 < sx.numel
  poso : 0 < so.numel

variable {nD : Nat} {τ : Topo} {sig : RefSig} {Val : EltTy → Type} {Λ : Labels}
local notation "𝕄" => MT nD τ sig Unit Val ℕ (UD sig nD τ) ℕ

namespace Scale

variable (S : Scale sig Val)

/-- Input slot `s`, an image's shape. -/
abbrev xs (s : Fin 3) : Memref sig .tc .vmem S.sx .f32 := (S.xb.slice (S.rx s) (S.rx1 s)).squeeze S.sx (S.sqx s)
/-- Output slot `s`, an image's shape. -/
abbrev os (s : Fin 3) : Memref sig .tc .vmem S.so .f32 := (S.ob.slice (S.ro s) (S.ro1 s)).squeeze S.so (S.sqo s)

/-- Start the copy of image `i` into its slot. -/
def startIn (i : Fin 16) (k : Prog (TpuEff nD τ sig Val Λ .tc) PUnit) : Prog (TpuEff nD τ sig Val Λ .tc) PUnit :=
  .op (.enqueueDma (S.xg i) (.here (S.xs (slot i))) (.dma (S.isem (slot i))) (S.wxg i) (S.wxs (slot i)) ⟨Or.inl rfl, trivial⟩) fun _ => k
/-- Wait for image `i` in its slot. -/
def waitIn (i : Fin 16) (k : Prog (TpuEff nD τ sig Val Λ .tc) PUnit) : Prog (TpuEff nD τ sig Val Λ .tc) PUnit :=
  .op (.waitDma2 (S.isem (slot i)) (S.xg i) (S.xs (slot i)) (S.wxg i) (S.wxs (slot i))) fun _ => k
/-- Start the copy of result image `i` out of its slot. -/
def startOut (i : Fin 16) (k : Prog (TpuEff nD τ sig Val Λ .tc) PUnit) : Prog (TpuEff nD τ sig Val Λ .tc) PUnit :=
  .op (.enqueueDma (S.os (slot i)) (.here (S.og i)) (.dma (S.osem (slot i))) (S.wos (slot i)) (S.wog i) ⟨Or.inl rfl, trivial⟩) fun _ => k
/-- Wait until result image `i` is out. -/
def waitOut (i : Fin 16) (k : Prog (TpuEff nD τ sig Val Λ .tc) PUnit) : Prog (TpuEff nD τ sig Val Λ .tc) PUnit :=
  .op (.waitDma2 (S.osem (slot i)) (S.os (slot i)) (S.og i) (S.wos (slot i)) (S.wog i)) fun _ => k
/-- Compute image `i`, slot to slot. -/
def compute (s : Fin 3) (k : Prog (TpuEff nD τ sig Val Λ .tc) PUnit) : Prog (TpuEff nD τ sig Val Λ .tc) PUnit :=
  .op (.load S.wb S.rw.toLoadRect S.lw) fun w => .op (.load S.xb (S.rx s).toLoadRect (S.lx s)) fun x =>
  .op (.load S.bb S.rb.toLoadRect S.lb) fun b => .op (.load S.ob (S.ro s).toLoadRect (S.lo s)) fun _ =>
  .op (.store S.ob (S.ro s) (S.pay s w x b) Finset.univ (S.sto s) (.inl rfl)) fun _ => k

/-- The first half of a step: wait for image `i`, and start image `i + 2` if there is one. -/
def stepIn (i : Fin 16) (k : Prog (TpuEff nD τ sig Val Λ .tc) PUnit) : Prog (TpuEff nD τ sig Val Λ .tc) PUnit :=
  S.waitIn i (if h : i.val + 2 < 16 then S.startIn ⟨i.val + 2, h⟩ k else k)
/-- The second: free the output slot if an earlier image holds it, compute, and start the result's copy. -/
def stepOut (i : Fin 16) (k : Prog (TpuEff nD τ sig Val Λ .tc) PUnit) : Prog (TpuEff nD τ sig Val Λ .tc) PUnit :=
  if h : 3 ≤ i.val then S.waitOut ⟨i.val - 3, by omega⟩ k else k
def step (i : Fin 16) (k : Prog (TpuEff nD τ sig Val Λ .tc) PUnit) : Prog (TpuEff nD τ sig Val Λ .tc) PUnit :=
  S.stepIn i (S.stepOut i (S.compute (slot i) (S.startOut i k)))

/-- The last `n` steps. -/
def steps : (n : ℕ) → n ≤ 16 → Prog (TpuEff nD τ sig Val Λ .tc) PUnit → Prog (TpuEff nD τ sig Val Λ .tc) PUnit
  | 0, _, k => k
  | n + 1, h, k => S.step ⟨15 - n, by omega⟩ (steps n (by omega) k)

/-- The whole scale. -/
def run (k : Prog (TpuEff nD τ sig Val Λ .tc) PUnit) : Prog (TpuEff nD τ sig Val Λ .tc) PUnit :=
  S.startIn 0 (S.startIn 1 (S.steps 16 le_rfl (S.waitOut 13 (S.waitOut 14 (S.waitOut 15 k)))))

end Scale

/-! ## Taking members of a family out and putting them back changed -/

section Families

variable {n : ℕ}

theorem family_take {s : Finset (Fin n)} {i : Fin n} (Φ : Fin n → sProp 𝕄) (hi : i ∈ s) :
    bigSep s Φ ⊢ iprop(Φ i ∗ bigSep (s.erase i) Φ) := Entails.of_eq (bigSep_erase hi)
theorem family_put {s : Finset (Fin n)} {i : Fin n} (Φ : Fin n → sProp 𝕄) (hi : i ∈ s) :
    iprop(Φ i ∗ bigSep (s.erase i) Φ) ⊢ bigSep s Φ := Entails.of_eq (bigSep_erase hi).symm

theorem family_one (Φ Ψ : Fin n → sProp 𝕄) (a : Fin n) (h : ∀ j, j ≠ a → Φ j = Ψ j) :
    bigSep Finset.univ Φ ⊢ iprop(Φ a ∗ (Ψ a -∗ bigSep Finset.univ Ψ)) := by
  have e := bigSep_congr (Φ := Φ) (Ψ := Ψ) (s := Finset.univ.erase a) fun j hj => h j (Finset.ne_of_mem_erase hj)
  iintro H
  ihave H := (family_take Φ (Finset.mem_univ a)) $$ H
  icases H with ⟨HA, HR⟩
  isplitl [HA]; · iexact HA
  iintro HB
  iapply (family_put Ψ (Finset.mem_univ a))
  isplitl [HB]; · iexact HB
  rw [← e]
  iexact HR

theorem family_two (Φ Ψ : Fin n → sProp 𝕄) (a b : Fin n) (hab : b ≠ a) (h : ∀ j, j ≠ a → j ≠ b → Φ j = Ψ j) :
    bigSep Finset.univ Φ ⊢ iprop(Φ a ∗ Φ b ∗ (Ψ a -∗ Ψ b -∗ bigSep Finset.univ Ψ)) := by
  have hb : b ∈ Finset.univ.erase a := Finset.mem_erase.mpr ⟨hab, Finset.mem_univ _⟩
  have e := bigSep_congr (Φ := Φ) (Ψ := Ψ) (s := (Finset.univ.erase a).erase b) fun j hj =>
      h j (Finset.ne_of_mem_erase (Finset.mem_of_mem_erase hj)) (Finset.ne_of_mem_erase hj)
  iintro H
  ihave H := (family_take Φ (Finset.mem_univ a)) $$ H
  icases H with ⟨HA, HR⟩
  ihave HR := (family_take Φ hb) $$ HR
  icases HR with ⟨HB, HR⟩
  isplitl [HA]; · iexact HA
  isplitl [HB]; · iexact HB
  iintro HA HB
  iapply (family_put Ψ (Finset.mem_univ a))
  isplitl [HA]; · iexact HA
  iapply (family_put Ψ hb)
  isplitl [HB]; · iexact HB
  rw [← e]
  iexact HR

end Families

/-! ## What a scale holds -/

namespace Scale

variable (S : Scale sig Val)

variable (c : Dev nD)

/-- A scale's contents: the images of the operand, the result's images before, and each result image's value. -/
structure Data where
  X : (i : Fin 16) → Buf Val ((S.xg i).view.loc (c : Thread nD τ))
  O : (i : Fin 16) → Buf Val ((S.og i).view.loc (c : Thread nD τ))
  W : Buf Val (S.wb.view.loc (c : Thread nD τ))
  B : Buf Val (S.bb.view.loc (c : Thread nD τ))
  Y : Fin 16 → S.so.Idx → Val .f32

variable {c} (D : S.Data (τ := τ) c)

/-- What a slot reads after image `i` landed over `f`. -/
abbrev landed (i : Fin 16) (f : Buf Val ((S.xs (slot i)).view.loc (c : Thread nD τ))) : (S.rx (slot i)).shape.Idx → Val .f32 :=
  (S.xb.access (S.rx (slot i))).read Val ((S.xs (slot i)).view.write Val f ((S.xg i).view.read Val (D.X i)) Finset.univ)

/-- The value of each result image is the one the program computes of the operand's image, whatever the slots held. -/
def Computes : Prop :=
  ∀ (i : Fin 16) (f : Buf Val ((S.xs (slot i)).view.loc (c : Thread nD τ))) (g : Buf Val ((S.os (slot i)).view.loc (c : Thread nD τ))),
    (S.os (slot i)).view.read Val ((S.ob.access (S.ro (slot i))).write Val g
      (S.pay (slot i) ((S.wb.access S.rw).read Val D.W) (S.landed D i f) ((S.bb.access S.rb).read Val D.B)) Finset.univ) = D.Y i

/-- Image `i` of the operand. -/
def xhome (i : Fin 16) : sProp 𝕄 := (S.xg i).view.loc (c : Thread nD τ) ↦[(S.xg i).view.set]{fullShare} D.X i
/-- Image `i` of the result, as before the call and as computed. -/
def oraw (i : Fin 16) : sProp 𝕄 := (S.og i).view.loc (c : Thread nD τ) ↦[(S.og i).view.set]{fullShare} D.O i
def odone (i : Fin 16) : sProp 𝕄 :=
  (S.og i).view.loc (c : Thread nD τ) ↦[(S.og i).view.set]{fullShare} (S.og i).view.write Val (D.O i) (D.Y i) Finset.univ
variable (c) in
/-- A slot at anything. -/
def xany (s : Fin 3) : sProp 𝕄 := iprop(∃ f, (S.xs s).view.loc (c : Thread nD τ) ↦[(S.xs s).view.set]{fullShare} f)
variable (c) in
def oany (s : Fin 3) : sProp 𝕄 := iprop(∃ f, (S.os s).view.loc (c : Thread nD τ) ↦[(S.os s).view.set]{fullShare} f)
variable (c) in
def icell (s : Fin 3) : sProp 𝕄 := semVal ((c : Thread nD τ), SemLoc.dma (S.isem s)) 0
variable (c) in
def ocell (s : Fin 3) : sProp 𝕄 := semVal ((c : Thread nD τ), SemLoc.dma (S.osem s)) 0
/-- A slot holding image `i`. -/
def xland (i : Fin 16) : sProp 𝕄 :=
  iprop(∃ f, (S.xs (slot i)).view.loc (c : Thread nD τ) ↦[(S.xs (slot i)).view.set]{fullShare}
    (S.xs (slot i)).view.write Val f ((S.xg i).view.read Val (D.X i)) Finset.univ)
/-- Image `i` on its way in, and result image `i` on its way out. -/
def xfly (i : Fin 16) : sProp 𝕄 :=
  Transfers.Flight countersEmb (c : Thread nD τ) (.dma (S.isem (slot i))) () (S.xs (slot i)).view.dmaCredit iprop(S.xland D i ∗ S.xhome D i)
def ofly (i : Fin 16) : sProp 𝕄 :=
  Transfers.Flight countersEmb (c : Thread nD τ) (.dma (S.osem (slot i))) () (S.og i).view.dmaCredit iprop(S.odone D i ∗ S.oany c (slot i))
/-- The weights and the bias. -/
def wP : sProp 𝕄 := S.wb.view.loc (c : Thread nD τ) ↦{fullShare} D.W
def bP : sProp 𝕄 := S.bb.view.loc (c : Thread nD τ) ↦{fullShare} D.B
variable (c) in
def owed : sProp 𝕄 := iprop(∃ W, owes (c : Thread nD τ) 0 W)

/-! ## The operations -/

section Ops

variable (defs : Defs nD τ sig Val Λ) (𝒱 : Variants)
  (Q : PUnit → sProp (MT nD τ sig Unit Val ℕ (UD sig nD τ) ℕ)) (k : Prog (TpuEff nD τ sig Val Λ .tc) PUnit)

variable (c) in
/-- The program logic's assertion at a TensorCore. -/
abbrev tcWp (p : Prog (TpuEff nD τ sig Val Λ .tc) PUnit) : sProp 𝕄 :=
  wp frame (wpE defs 𝒱 (c : Thread nD τ) none) Set.univ p Q

set_option backward.isDefEq.respectTransparency.types false in
theorem wp_startIn (i : Fin 16) :
    iprop(S.xhome D i ∗ S.xany c (slot i) ∗ S.icell c (slot i) ∗ (S.xfly D i -∗ tcWp c defs 𝒱 Q k))
      ⊢ tcWp c defs 𝒱 Q (S.startIn i k) := by
  unfold xhome xany icell startIn tcWp
  iintro ⟨Hx, ⟨%f, Hs⟩, Hc, Hk⟩
  iapply (Transfers.wp_dmaLocal countersEmb 𝒱 (c : Thread nD τ) none () _ rfl (View.dmaCredit_pos _ S.posx)
    (Finset.Subset.refl _)) $$ [Hx Hs Hc]
  · isplitl [Hx]; · iexact Hx
    isplitl [Hs]; · iexact Hs
    iexact Hc
  iintro Hf
  iapply Hk
  unfold xfly
  iapply (Transfers.Flight_mono countersEmb (c : Thread nD τ) (by
    unfold xland xhome
    iintro ⟨Hs, Hx⟩
    isplitl [Hs]
    · iexists f; iexact Hs
    iexact Hx)) $$ Hf

set_option backward.isDefEq.respectTransparency.types false in
theorem wp_waitIn (i : Fin 16) :
    iprop(S.xfly D i ∗ owed c ∗ (S.xland D i -∗ S.xhome D i -∗ S.icell c (slot i) -∗ owed c -∗ tcWp c defs 𝒱 Q k))
      ⊢ tcWp c defs 𝒱 Q (S.waitIn i k) := by
  unfold xfly waitIn icell owed tcWp
  iintro ⟨Hf, ⟨%W, HW⟩, Hk⟩
  iapply (Transfers.wp_waitLocal countersEmb 𝒱 (c : Thread nD τ) none () rfl) $$ [Hf HW]
  · isplitl [Hf]; · iexact Hf
    iexact HW
  iintro ⟨⟨Hl, Hx⟩, Hc, HW⟩
  iapply Hk $$ Hl Hx Hc
  iexists _; iexact HW

set_option backward.isDefEq.respectTransparency.types false in
theorem wp_waitOut (i : Fin 16) :
    iprop(S.ofly D i ∗ owed c ∗ (S.odone D i -∗ S.oany c (slot i) -∗ S.ocell c (slot i) -∗ owed c -∗ tcWp c defs 𝒱 Q k))
      ⊢ tcWp c defs 𝒱 Q (S.waitOut i k) := by
  unfold ofly waitOut ocell owed tcWp
  iintro ⟨Hf, ⟨%W, HW⟩, Hk⟩
  iapply (Transfers.wp_waitLocal countersEmb 𝒱 (c : Thread nD τ) none () rfl) $$ [Hf HW]
  · isplitl [Hf]; · iexact Hf
    iexact HW
  iintro ⟨⟨Hl, Hx⟩, Hc, HW⟩
  iapply Hk $$ Hl Hx Hc
  iexists _; iexact HW

theorem xs_set (s : Fin 3) : (S.xs s).view.set = (S.xb.access (S.rx s)).set := View.set_reshape _ _
theorem os_set (s : Fin 3) : (S.os s).view.set = (S.ob.access (S.ro s)).set := View.set_reshape _ _

/-- An output slot holding result image `i`. -/
def oland (i : Fin 16) : sProp 𝕄 :=
  iprop(∃ f, ⌜(S.os (slot i)).view.read Val f = D.Y i⌝ ∗
    (S.os (slot i)).view.loc (c : Thread nD τ) ↦[(S.os (slot i)).view.set]{fullShare} f)

set_option backward.isDefEq.respectTransparency.types false in
theorem wp_compute (hY : S.Computes D) (i : Fin 16) :
    iprop(S.wP D ∗ S.bP D ∗ S.xland D i ∗ S.oany c (slot i) ∗
        (S.wP D -∗ S.bP D -∗ S.xany c (slot i) -∗ S.oland D i -∗ tcWp c defs 𝒱 Q k))
      ⊢ tcWp c defs 𝒱 Q (S.compute (slot i) k) := by
  unfold wP bP xland xany oany oland compute tcWp
  iintro ⟨Hw, Hb, ⟨%f, Hx⟩, ⟨%g, Ho⟩, Hk⟩
  iapply (wp_load_rect 𝒱 (c : Thread nD τ) none Set.univ (m := S.wb) (r := S.rw) (S := Finset.univ) (Finset.subset_univ _)) $$ Hw
  iintro Hw
  iapply (wp_load_rect 𝒱 (c : Thread nD τ) none Set.univ (m := S.xb) (r := S.rx (slot i)) (S.xs_set (slot i)).symm.subset) $$ Hx
  iintro Hx
  iapply (wp_load_rect 𝒱 (c : Thread nD τ) none Set.univ (m := S.bb) (r := S.rb) (S := Finset.univ) (Finset.subset_univ _)) $$ Hb
  iintro Hb
  iapply (wp_load_rect 𝒱 (c : Thread nD τ) none Set.univ (m := S.ob) (r := S.ro (slot i)) (S.os_set (slot i)).symm.subset) $$ Ho
  iintro Ho
  iapply (wp_store 𝒱 (c : Thread nD τ) none Set.univ (m := S.ob) (r := S.ro (slot i)) (Mk := Finset.univ) (by rw [View.setOn_univ]; exact (S.os_set (slot i)).symm.subset)) $$ Ho
  iintro Ho
  iapply Hk $$ Hw Hb [Hx] [Ho]
  · iexists _; iexact Hx
  iexists _
  isplitr; · ipureintro; exact hY i f g
  iexact Ho

set_option backward.isDefEq.respectTransparency.types false in
theorem wp_startOut (i : Fin 16) :
    iprop(S.oland D i ∗ S.oraw D i ∗ S.ocell c (slot i) ∗ (S.ofly D i -∗ tcWp c defs 𝒱 Q k))
      ⊢ tcWp c defs 𝒱 Q (S.startOut i k) := by
  unfold oland oraw ocell startOut tcWp
  iintro ⟨⟨%f, %hf, Hs⟩, Ho, Hc, Hk⟩
  iapply (Transfers.wp_dmaLocal countersEmb 𝒱 (c : Thread nD τ) none () _ rfl (View.dmaCredit_pos _ S.poso)
    (Finset.Subset.refl _)) $$ [Hs Ho Hc]
  · isplitl [Hs]; · iexact Hs
    isplitl [Ho]; · iexact Ho
    iexact Hc
  iintro Hf
  iapply Hk
  unfold ofly
  iapply (Transfers.Flight_mono countersEmb (c : Thread nD τ) (by
    unfold odone oany
    rw [← hf]
    iintro ⟨Ho, Hs⟩
    isplitl [Ho]
    · iexact Ho
    iexists _; iexact Hs)) $$ Hf

end Ops

/-! ## The two rings

A slot is busy from the start of an image's copy into it until the image has left it. Images `l ≤ j < m` are those whose
slot is busy; of these the input images from `n` on are still flying in, and the result images before `n` are flying
out. -/

/-- Slot `s` is busy with one of the images from `l` to below `m`. -/
def Busy (l m : ℕ) (s : Fin 3) : Prop := ∃ j : Fin 16, l ≤ j.val ∧ j.val < m ∧ slot j = s

theorem slot_eq_iff (i j : Fin 16) : slot i = slot j ↔ i.val % 3 = j.val % 3 := Fin.ext_iff

theorem busy_more (l : ℕ) (m : Fin 16) (s : Fin 3) (h : s ≠ slot m) : Busy l m.val s ↔ Busy l (m.val + 1) s := by
  constructor
  · rintro ⟨j, h1, h2, h3⟩; exact ⟨j, h1, by omega, h3⟩
  · rintro ⟨j, h1, h2, h3⟩
    refine ⟨j, h1, ?_, h3⟩
    rcases Nat.lt_succ_iff_lt_or_eq.mp h2 with h' | h'
    · exact h'
    · exact absurd (h3.symm.trans (congrArg slot (Fin.ext h'))) h

theorem busy_less (l : Fin 16) (m : ℕ) (s : Fin 3) (h : s ≠ slot l) : Busy l.val m s ↔ Busy (l.val + 1) m s := by
  constructor
  · rintro ⟨j, h1, h2, h3⟩
    refine ⟨j, ?_, h2, h3⟩
    rcases Nat.lt_or_eq_of_le h1 with h' | h'
    · exact h'
    · exact absurd (h3.symm.trans (congrArg slot (Fin.ext h'.symm))) h
  · rintro ⟨j, h1, h2, h3⟩; exact ⟨j, by omega, h2, h3⟩

theorem not_busy_next (l : ℕ) (m : Fin 16) (h : m.val < l + 3) : ¬ Busy l m.val (slot m) := by
  rintro ⟨j, h1, h2, h3⟩
  rw [slot_eq_iff] at h3; omega

theorem not_busy_last (l : Fin 16) (m : ℕ) (h : m ≤ l.val + 3) : ¬ Busy (l.val + 1) m (slot l) := by
  rintro ⟨j, h1, h2, h3⟩
  rw [slot_eq_iff] at h3; omega

theorem busy_of (l m : ℕ) (j : Fin 16) (h1 : l ≤ j.val) (h2 : j.val < m) : Busy l m (slot j) := ⟨j, h1, h2, rfl⟩

theorem not_busy_empty (m : ℕ) (s : Fin 3) : ¬ Busy m m s := by rintro ⟨j, h1, h2, -⟩; omega

open scoped Classical in
/-- Image `j` of the operand when the images `n ≤ j < m` are flying in. -/
def xImage (n m : ℕ) (j : Fin 16) : sProp 𝕄 := if n ≤ j.val ∧ j.val < m then S.xfly D j else S.xhome D j
open scoped Classical in
variable (c) in
/-- Input slot `s` when the images `l ≤ j < m` keep theirs busy. -/
def xSlot (l m : ℕ) (s : Fin 3) : sProp 𝕄 := if Busy l m s then iprop(emp) else iprop(S.xany c s ∗ S.icell c s)
open scoped Classical in
/-- Image `j` of the result when the images before `l` are out and those from `l` to below `n` are flying out. -/
def oImage (l n : ℕ) (j : Fin 16) : sProp 𝕄 := if j.val < l then S.odone D j else if j.val < n then S.ofly D j else S.oraw D j
open scoped Classical in
variable (c) in
def oSlot (l m : ℕ) (s : Fin 3) : sProp 𝕄 := if Busy l m s then iprop(emp) else iprop(S.oany c s ∗ S.ocell c s)

def xRing (l n m : ℕ) : sProp 𝕄 := iprop(bigSep Finset.univ (S.xImage D n m) ∗ bigSep Finset.univ (S.xSlot c l m))
def oRing (l n m : ℕ) : sProp 𝕄 := iprop(bigSep Finset.univ (S.oImage D l n) ∗ bigSep Finset.univ (S.oSlot c l m))

theorem xSlot_congr {l m l' m' : ℕ} {s : Fin 3} (h : Busy l m s ↔ Busy l' m' s) : (S.xSlot c l m s : sProp 𝕄) = S.xSlot c l' m' s := by
  unfold xSlot
  by_cases hb : Busy l m s
  · rw [if_pos hb, if_pos (h.mp hb)]
  · rw [if_neg hb, if_neg (mt h.mpr hb)]
theorem oSlot_congr {l m l' m' : ℕ} {s : Fin 3} (h : Busy l m s ↔ Busy l' m' s) : (S.oSlot c l m s : sProp 𝕄) = S.oSlot c l' m' s := by
  unfold oSlot
  by_cases hb : Busy l m s
  · rw [if_pos hb, if_pos (h.mp hb)]
  · rw [if_neg hb, if_neg (mt h.mpr hb)]
theorem xSlot_busy {l m : ℕ} {s : Fin 3} (h : Busy l m s) : (S.xSlot c l m s : sProp 𝕄) = iprop(emp) := if_pos h
theorem oSlot_busy {l m : ℕ} {s : Fin 3} (h : Busy l m s) : (S.oSlot c l m s : sProp 𝕄) = iprop(emp) := if_pos h
theorem xSlot_free {l m : ℕ} {s : Fin 3} (h : ¬ Busy l m s) : (S.xSlot c l m s : sProp 𝕄) = iprop(S.xany c s ∗ S.icell c s) := if_neg h
theorem oSlot_free {l m : ℕ} {s : Fin 3} (h : ¬ Busy l m s) : (S.oSlot c l m s : sProp 𝕄) = iprop(S.oany c s ∗ S.ocell c s) := if_neg h

section Rings

variable (defs : Defs nD τ sig Val Λ) (𝒱 : Variants)
  (Q : PUnit → sProp (MT nD τ sig Unit Val ℕ (UD sig nD τ) ℕ)) (k : Prog (TpuEff nD τ sig Val Λ .tc) PUnit)

/-- Starting image `m` makes it fly and its slot busy. -/
theorem ring_startIn (l n : ℕ) (m : Fin 16) (h1 : n ≤ m.val) (h2 : l ≤ n) (h3 : m.val < l + 3) :
    iprop(S.xRing D l n m.val ∗ (S.xRing D l n (m.val + 1) -∗ tcWp c defs 𝒱 Q k)) ⊢ tcWp c defs 𝒱 Q (S.startIn m k) := by
  unfold xRing
  iintro ⟨⟨HJ, HS⟩, Hk⟩
  ihave HJ := (family_one (S.xImage D n m.val) (S.xImage D n (m.val + 1)) m (fun j hj => by
    unfold xImage
    have hj' : j.val ≠ m.val := fun e => hj (Fin.ext e)
    have : (n ≤ j.val ∧ j.val < m.val) ↔ (n ≤ j.val ∧ j.val < m.val + 1) := by omega
    simp only [this])) $$ HJ
  ihave HS := (family_one (S.xSlot c l m.val) (S.xSlot c l (m.val + 1)) (slot m)
    (fun s hs => S.xSlot_congr (busy_more l m s hs))) $$ HS
  rw [S.xSlot_free (not_busy_next l m h3), S.xSlot_busy (busy_of l (m.val + 1) m (by omega) (by omega)),
    show S.xImage D n m.val m = S.xhome D m from if_neg (by omega),
    show S.xImage D n (m.val + 1) m = S.xfly D m from if_pos (by omega)]
  icases HJ with ⟨Hx, HJ⟩
  icases HS with ⟨⟨Hs, Hc⟩, HS⟩
  iapply (S.wp_startIn D defs 𝒱 Q k m)
  isplitl [Hx]; · iexact Hx
  isplitl [Hs]; · iexact Hs
  isplitl [Hc]; · iexact Hc
  iintro Hf
  iapply Hk
  isplitl [HJ Hf]
  · iapply HJ; iexact Hf
  iapply HS; iempintro

/-- Waiting for image `n` brings it home, its slot still busy and in the program's hands. -/
theorem ring_waitIn (l : ℕ) (n : Fin 16) (m : ℕ) (h : n.val < m) :
    iprop(S.xRing D l n.val m ∗ owed c ∗
        (S.xRing D l (n.val + 1) m -∗ S.xland D n -∗ S.icell c (slot n) -∗ owed c -∗ tcWp c defs 𝒱 Q k))
      ⊢ tcWp c defs 𝒱 Q (S.waitIn n k) := by
  unfold xRing
  iintro ⟨⟨HJ, HS⟩, HW, Hk⟩
  ihave HJ := (family_one (S.xImage D n.val m) (S.xImage D (n.val + 1) m) n (fun j hj => by
    unfold xImage
    have hj' : j.val ≠ n.val := fun e => hj (Fin.ext e)
    have : (n.val ≤ j.val ∧ j.val < m) ↔ (n.val + 1 ≤ j.val ∧ j.val < m) := by omega
    simp only [this])) $$ HJ
  rw [show S.xImage D n.val m n = S.xfly D n from if_pos (by omega),
    show S.xImage D (n.val + 1) m n = S.xhome D n from if_neg (by omega)]
  icases HJ with ⟨Hx, HJ⟩
  iapply (S.wp_waitIn D defs 𝒱 Q k n)
  isplitl [Hx]; · iexact Hx
  isplitl [HW]; · iexact HW
  iintro Hl Hh Hc HW
  iapply Hk $$ [HJ HS Hh] Hl Hc HW
  isplitl [HJ Hh]
  · iapply HJ; iexact Hh
  iexact HS

/-- The slot of the first busy image is given back. -/
theorem ring_release (l : Fin 16) (n m : ℕ) (h1 : l.val < m) (h2 : m ≤ l.val + 3) :
    iprop(S.xRing D l.val n m ∗ S.xany c (slot l) ∗ S.icell c (slot l)) ⊢ S.xRing D (l.val + 1) n m := by
  unfold xRing
  iintro ⟨⟨HJ, HS⟩, Hs, Hc⟩
  ihave HS := (family_one (S.xSlot c l.val m) (S.xSlot c (l.val + 1) m) (slot l)
    (fun s hs => S.xSlot_congr (busy_less l m s hs))) $$ HS
  rw [S.xSlot_busy (busy_of l.val m l le_rfl h1), S.xSlot_free (not_busy_last l m h2)]
  icases HS with ⟨-, HS⟩
  isplitl [HJ]; · iexact HJ
  iapply HS
  isplitl [Hs]; · iexact Hs
  iexact Hc

/-- Waiting for result image `l` puts it in place and gives its slot back. -/
theorem ring_waitOut (l : Fin 16) (n m : ℕ) (h1 : l.val < n) (h2 : n ≤ m) (h3 : m ≤ l.val + 3) :
    iprop(S.oRing D l.val n m ∗ owed c ∗ (S.oRing D (l.val + 1) n m -∗ owed c -∗ tcWp c defs 𝒱 Q k))
      ⊢ tcWp c defs 𝒱 Q (S.waitOut l k) := by
  unfold oRing
  iintro ⟨⟨HJ, HS⟩, HW, Hk⟩
  ihave HJ := (family_one (S.oImage D l.val n) (S.oImage D (l.val + 1) n) l (fun j hj => by
    unfold oImage
    have hj' : j.val ≠ l.val := fun e => hj (Fin.ext e)
    have : j.val < l.val ↔ j.val < l.val + 1 := by omega
    simp only [this])) $$ HJ
  ihave HS := (family_one (S.oSlot c l.val m) (S.oSlot c (l.val + 1) m) (slot l)
    (fun s hs => S.oSlot_congr (busy_less l m s hs))) $$ HS
  rw [S.oSlot_busy (busy_of l.val m l le_rfl (by omega)), S.oSlot_free (not_busy_last l m h3),
    show S.oImage D l.val n l = S.ofly D l from (if_neg (by omega)).trans (if_pos h1),
    show S.oImage D (l.val + 1) n l = S.odone D l from if_pos (by omega)]
  icases HJ with ⟨Hf, HJ⟩
  icases HS with ⟨-, HS⟩
  iapply (S.wp_waitOut D defs 𝒱 Q k l)
  isplitl [Hf]; · iexact Hf
  isplitl [HW]; · iexact HW
  iintro Hd Hs Hc HW
  iapply Hk $$ [HJ HS Hd Hs Hc] HW
  isplitl [HJ Hd]
  · iapply HJ; iexact Hd
  iapply HS
  isplitl [Hs]; · iexact Hs
  iexact Hc

/-- The slot of result image `m` is taken. -/
theorem ring_take (l n : ℕ) (m : Fin 16) (h2 : l ≤ m.val) (h3 : m.val < l + 3) :
    S.oRing D l n m.val ⊢ iprop(S.oRing D l n (m.val + 1) ∗ S.oany c (slot m) ∗ S.ocell c (slot m)) := by
  unfold oRing
  iintro ⟨HJ, HS⟩
  ihave HS := (family_one (S.oSlot c l m.val) (S.oSlot c l (m.val + 1)) (slot m)
    (fun s hs => S.oSlot_congr (busy_more l m s hs))) $$ HS
  rw [S.oSlot_free (not_busy_next l m h3), S.oSlot_busy (busy_of l (m.val + 1) m h2 (by omega))]
  icases HS with ⟨⟨Hs, Hc⟩, HS⟩
  isplitl [HJ HS]
  · isplitl [HJ]; · iexact HJ
    iapply HS; iempintro
  isplitl [Hs]; · iexact Hs
  iexact Hc

/-- Starting result image `n` out of its slot makes it fly. -/
theorem ring_startOut (l : ℕ) (n : Fin 16) (m : ℕ) (h : l ≤ n.val) :
    iprop(S.oRing D l n.val m ∗ S.oland D n ∗ S.ocell c (slot n) ∗ (S.oRing D l (n.val + 1) m -∗ tcWp c defs 𝒱 Q k))
      ⊢ tcWp c defs 𝒱 Q (S.startOut n k) := by
  unfold oRing
  iintro ⟨⟨HJ, HS⟩, Hl, Hc, Hk⟩
  ihave HJ := (family_one (S.oImage D l n.val) (S.oImage D l (n.val + 1)) n (fun j hj => by
    unfold oImage
    have hj' : j.val ≠ n.val := fun e => hj (Fin.ext e)
    have : j.val < n.val ↔ j.val < n.val + 1 := by omega
    simp only [this])) $$ HJ
  rw [show S.oImage D l n.val n = S.oraw D n from (if_neg (by omega)).trans (if_neg (by omega)),
    show S.oImage D l (n.val + 1) n = S.ofly D n from (if_neg (by omega)).trans (if_pos (by omega))]
  icases HJ with ⟨Ho, HJ⟩
  iapply (S.wp_startOut D defs 𝒱 Q k n)
  isplitl [Hl]; · iexact Hl
  isplitl [Ho]; · iexact Ho
  isplitl [Hc]; · iexact Hc
  iintro Hf
  iapply Hk
  isplitl [HJ Hf]
  · iapply HJ; iexact Hf
  iexact HS

/-- What a scale holds between two steps: `i` images are computed. -/
def held (i : ℕ) : sProp 𝕄 :=
  iprop(S.xRing D i i (min (i + 2) 16) ∗ S.oRing D (i - 3) i i ∗ S.wP D ∗ S.bP D ∗ owed c)

/-- The first half of step `i`. -/
theorem wp_stepIn (i : Fin 16) :
    iprop(S.xRing D i.val i.val (min (i.val + 2) 16) ∗ owed c ∗
        (S.xRing D i.val (i.val + 1) (min (i.val + 3) 16) -∗ S.xland D i -∗ S.icell c (slot i) -∗ owed c -∗ tcWp c defs 𝒱 Q k))
      ⊢ tcWp c defs 𝒱 Q (S.stepIn i k) := by
  unfold stepIn
  iintro ⟨HR, HW, Hk⟩
  iapply (S.ring_waitIn D defs 𝒱 Q _ i.val i (min (i.val + 2) 16) (by omega))
  isplitl [HR]; · iexact HR
  isplitl [HW]; · iexact HW
  iintro HR Hl Hc HW
  by_cases h : i.val + 2 < 16
  · rw [dif_pos h, show min (i.val + 2) 16 = (⟨i.val + 2, h⟩ : Fin 16).val from by simp <;> omega,
      show min (i.val + 3) 16 = (⟨i.val + 2, h⟩ : Fin 16).val + 1 from by simp <;> omega]
    iapply (S.ring_startIn D defs 𝒱 Q k i.val (i.val + 1) ⟨i.val + 2, h⟩ (by simp) (by simp) (by simp))
    isplitl [HR]; · iexact HR
    iintro HR
    iapply Hk $$ HR Hl Hc HW
  · rw [dif_neg h, show min (i.val + 3) 16 = min (i.val + 2) 16 from by omega]
    iapply Hk $$ HR Hl Hc HW

/-- Freeing the output slot. -/
theorem wp_stepOut (i : Fin 16) :
    iprop(S.oRing D (i.val - 3) i.val i.val ∗ owed c ∗
        (S.oRing D (i.val + 1 - 3) i.val i.val -∗ owed c -∗ tcWp c defs 𝒱 Q k))
      ⊢ tcWp c defs 𝒱 Q (S.stepOut i k) := by
  unfold stepOut
  iintro ⟨HR, HW, Hk⟩
  by_cases h : 3 ≤ i.val
  · have h' : i.val - 3 < 16 := by omega
    rw [dif_pos h, show i.val + 1 - 3 = (⟨i.val - 3, h'⟩ : Fin 16).val + 1 from by simp <;> omega]
    iapply (S.ring_waitOut D defs 𝒱 Q k ⟨i.val - 3, h'⟩ i.val i.val (by simp <;> omega) le_rfl (by simp <;> omega))
    isplitl [HR]; · iexact HR
    isplitl [HW]; · iexact HW
    iexact Hk
  · rw [dif_neg h, show i.val + 1 - 3 = i.val - 3 from by omega]
    iapply Hk $$ HR HW

theorem wp_step (hY : S.Computes D) (i : Fin 16) :
    iprop(S.held D i.val ∗ (S.held D (i.val + 1) -∗ tcWp c defs 𝒱 Q k)) ⊢ tcWp c defs 𝒱 Q (S.step i k) := by
  unfold held step
  iintro ⟨⟨HX, HO, Hw, Hb, HW⟩, Hk⟩
  iapply (S.wp_stepIn D defs 𝒱 Q _ i)
  isplitl [HX]; · iexact HX
  isplitl [HW]; · iexact HW
  iintro HX Hl Hic HW
  iapply (S.wp_stepOut D defs 𝒱 Q _ i)
  isplitl [HO]; · iexact HO
  isplitl [HW]; · iexact HW
  iintro HO HW
  ihave HO := (S.ring_take D (i.val + 1 - 3) i.val i (by omega) (by omega)) $$ HO
  icases HO with ⟨HO, Hs, Hoc⟩
  iapply (S.wp_compute D defs 𝒱 Q _ hY i)
  isplitl [Hw]; · iexact Hw
  isplitl [Hb]; · iexact Hb
  isplitl [Hl]; · iexact Hl
  isplitl [Hs]; · iexact Hs
  iintro Hw Hb Hx Hl
  iapply (S.ring_startOut D defs 𝒱 Q k (i.val + 1 - 3) i (i.val + 1) (by omega))
  isplitl [HO]; · iexact HO
  isplitl [Hl]; · iexact Hl
  isplitl [Hoc]; · iexact Hoc
  iintro HO
  iapply Hk
  isplitl [HX Hx Hic]
  · iapply (S.ring_release D i (i.val + 1) (min (i.val + 1 + 2) 16) (by omega) (by omega))
    isplitl [HX]; · iexact HX
    isplitl [Hx]; · iexact Hx
    iexact Hic
  isplitl [HO]; · iexact HO
  isplitl [Hw]; · iexact Hw
  isplitl [Hb]; · iexact Hb
  iexact HW

theorem wp_steps (hY : S.Computes D) : ∀ (n : ℕ) (hn : n ≤ 16),
    iprop(S.held D (16 - n) ∗ (S.held D 16 -∗ tcWp c defs 𝒱 Q k)) ⊢ tcWp c defs 𝒱 Q (S.steps n hn k)
  | 0, _ => by
    unfold steps
    iintro ⟨H, Hk⟩
    iapply Hk; iexact H
  | n + 1, hn => by
    have h' : 15 - n < 16 := by omega
    have h'' : n ≤ 16 := by omega
    unfold steps
    iintro ⟨H, Hk⟩
    iapply (S.wp_step D defs 𝒱 Q _ hY ⟨15 - n, h'⟩)
    isplitl [H]
    · rw [show 16 - (n + 1) = 15 - n from by omega]; iexact H
    iintro H
    iapply (wp_steps hY n h'')
    isplitl [H]
    · rw [show (⟨15 - n, h'⟩ : Fin 16).val + 1 = 16 - n from by simp <;> omega]; iexact H
    iexact Hk

/-- What a scale holds before and after its run: the operand's images, its slots and cells, the weights and bias, and
    the result's images `R`. -/
def frameOf (R : Fin 16 → sProp 𝕄) : sProp 𝕄 :=
  iprop(bigSep Finset.univ (S.xhome D) ∗ bigSep Finset.univ (fun s => iprop(S.xany c s ∗ S.icell c s)) ∗
    bigSep Finset.univ R ∗ bigSep Finset.univ (fun s => iprop(S.oany c s ∗ S.ocell c s)) ∗ S.wP D ∗ S.bP D ∗ owed c)

theorem xRing_idle (n : ℕ) : S.xRing D n n n
    = iprop(bigSep Finset.univ (S.xhome D) ∗ bigSep Finset.univ (fun s => iprop(S.xany c s ∗ S.icell c s))) := by
  unfold xRing
  rw [show S.xImage D n n = S.xhome D from funext fun j => if_neg (by omega),
    show S.xSlot c n n = fun s => iprop(S.xany c s ∗ S.icell c s) from funext fun s => S.xSlot_free (not_busy_empty n s)]
theorem oRing_before : S.oRing D 0 0 0
    = iprop(bigSep Finset.univ (S.oraw D) ∗ bigSep Finset.univ (fun s => iprop(S.oany c s ∗ S.ocell c s))) := by
  unfold oRing
  rw [show S.oImage D 0 0 = S.oraw D from funext fun j => (if_neg (by omega)).trans (if_neg (by omega)),
    show S.oSlot c 0 0 = fun s => iprop(S.oany c s ∗ S.ocell c s) from funext fun s => S.oSlot_free (not_busy_empty 0 s)]
theorem oRing_after : S.oRing D 16 16 16
    = iprop(bigSep Finset.univ (S.odone D) ∗ bigSep Finset.univ (fun s => iprop(S.oany c s ∗ S.ocell c s))) := by
  unfold oRing
  rw [show S.oImage D 16 16 = S.odone D from funext fun j => if_pos (by omega),
    show S.oSlot c 16 16 = fun s => iprop(S.oany c s ∗ S.ocell c s) from funext fun s => S.oSlot_free (not_busy_empty 16 s)]

/-- ONE SCALE: every image of the result is computed and in place, everything else is as it was. -/
theorem wp_run (hY : S.Computes D) :
    iprop(S.frameOf D (S.oraw D) ∗ (S.frameOf D (S.odone D) -∗ tcWp c defs 𝒱 Q k)) ⊢ tcWp c defs 𝒱 Q (S.run k) := by
  unfold frameOf run
  iintro ⟨⟨Hx, Hxs, Ho, Hos, Hw, Hb, HW⟩, Hk⟩
  ihave HX := (Entails.of_eq (S.xRing_idle D 0).symm) $$ [Hx Hxs]
  · isplitl [Hx]; · iexact Hx
    iexact Hxs
  ihave HO := (Entails.of_eq (S.oRing_before D).symm) $$ [Ho Hos]
  · isplitl [Ho]; · iexact Ho
    iexact Hos
  iapply (S.ring_startIn D defs 𝒱 Q _ 0 0 0 (by simp) (by simp) (by simp))
  isplitl [HX]; · iexact HX
  iintro HX
  iapply (S.ring_startIn D defs 𝒱 Q _ 0 0 1 (by simp) (by simp) (by simp))
  isplitl [HX]; · iexact HX
  iintro HX
  iapply (S.wp_steps D defs 𝒱 Q _ hY 16 le_rfl)
  unfold held
  isplitl [HX HO Hw Hb HW]
  · isplitl [HX]; · iexact HX
    isplitl [HO]; · iexact HO
    isplitl [Hw]; · iexact Hw
    isplitl [Hb]; · iexact Hb
    iexact HW
  iintro ⟨HX, HO, Hw, Hb, HW⟩
  iapply (S.ring_waitOut D defs 𝒱 Q _ 13 16 16 (by decide) le_rfl (by decide))
  isplitl [HO]; · iexact HO
  isplitl [HW]; · iexact HW
  iintro HO HW
  iapply (S.ring_waitOut D defs 𝒱 Q _ 14 16 16 (by decide) le_rfl (by decide))
  isplitl [HO]; · iexact HO
  isplitl [HW]; · iexact HW
  iintro HO HW
  iapply (S.ring_waitOut D defs 𝒱 Q _ 15 16 16 (by decide) le_rfl (by decide))
  isplitl [HO]; · iexact HO
  isplitl [HW]; · iexact HW
  iintro HO HW
  rw [show min (16 + 2) 16 = 16 from rfl, show (15 : Fin 16).val + 1 = 16 from rfl]
  ihave HX := (Entails.of_eq (S.xRing_idle D 16)) $$ HX
  ihave HO := (Entails.of_eq (S.oRing_after D)) $$ HO
  icases HX with ⟨Hx, Hxs⟩
  icases HO with ⟨Ho, Hos⟩
  iapply Hk
  isplitl [Hx]; · iexact Hx
  isplitl [Hxs]; · iexact Hxs
  isplitl [Ho]; · iexact Ho
  isplitl [Hos]; · iexact Hos
  isplitl [Hw]; · iexact Hw
  isplitl [Hb]; · iexact Hb
  iexact HW

end Rings

end Scale

end Cert.Proof.Stream

end
-- ==== Proof.Copies.lean ====
/-
  Whole-buffer copies started together and waited for together: the kernel brings its six weight and bias arrays into
  VMEM this way before the first scale.
-/
module

public import proofs.«01_k».proof.Proof.Stream

@[expose] public section

noncomputable section

namespace Cert.Proof.Stream

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Scale (tcWp)

/-- One copy from HBM to VMEM on a semaphore of its own. -/
structure Copy (sig : RefSig) where
  {s : Shape}
  src : Memref sig .tc .hbm s .f32
  dst : Memref sig .tc .vmem s .f32
  sem : DmaSem sig
  wsrc : src.view.WordExact
  wdst : dst.view.WordExact
  pos : 0 < s.numel

variable {nD : Nat} {τ : Topo} {sig : RefSig} {Val : EltTy → Type} {Λ : Labels}
local notation "𝕄" => MT nD τ sig Unit Val ℕ (UD sig nD τ) ℕ

/-- Start the copies of a list, in order. -/
def startAll : List (Copy sig) → Prog (TpuEff nD τ sig Val Λ .tc) PUnit → Prog (TpuEff nD τ sig Val Λ .tc) PUnit
  | [], k => k
  | C :: l, k => .op (.enqueueDma C.src (.here C.dst) (.dma C.sem) C.wsrc C.wdst ⟨Or.inl rfl, trivial⟩) fun _ => startAll l k
/-- Wait for the copies of a list, in order. -/
def waitAll : List (Copy sig) → Prog (TpuEff nD τ sig Val Λ .tc) PUnit → Prog (TpuEff nD τ sig Val Λ .tc) PUnit
  | [], k => k
  | C :: l, k => .op (.waitDma2 C.sem C.src C.dst C.wsrc C.wdst) fun _ => waitAll l k

variable (c : Dev nD) (V : (C : Copy sig) → Buf Val (C.src.view.loc (c : Thread nD τ)))

namespace Copy

/-- The source, the destination at anything, the semaphore at zero; and the destination holding the source. -/
def home (C : Copy sig) : sProp 𝕄 := C.src.view.loc (c : Thread nD τ) ↦[C.src.view.set]{fullShare} V C
def any (C : Copy sig) : sProp 𝕄 := iprop(∃ f, C.dst.view.loc (c : Thread nD τ) ↦{fullShare} f)
def cell (C : Copy sig) : sProp 𝕄 := semVal ((c : Thread nD τ), SemLoc.dma C.sem) 0
def land (C : Copy sig) : sProp 𝕄 :=
  iprop(∃ f, ⌜C.dst.view.read Val f = C.src.view.read Val (V C)⌝ ∗ C.dst.view.loc (c : Thread nD τ) ↦{fullShare} f)
def fly (C : Copy sig) : sProp 𝕄 :=
  Transfers.Flight countersEmb (c : Thread nD τ) (.dma C.sem) () C.dst.view.dmaCredit iprop(C.land c V ∗ C.home c V)

end Copy

/-- What a list of copies holds before its starts, between, and after its waits. -/
def beforeAll : List (Copy sig) → sProp 𝕄
  | [] => iprop(emp)
  | C :: l => iprop((C.home c V ∗ C.any c ∗ C.cell c) ∗ beforeAll l)
def flyAll : List (Copy sig) → sProp 𝕄
  | [] => iprop(emp)
  | C :: l => iprop(C.fly c V ∗ flyAll l)
def afterAll : List (Copy sig) → sProp 𝕄
  | [] => iprop(emp)
  | C :: l => iprop((C.home c V ∗ C.land c V ∗ C.cell c) ∗ afterAll l)

variable (defs : Defs nD τ sig Val Λ) (𝒱 : Variants)
  (Q : PUnit → sProp (MT nD τ sig Unit Val ℕ (UD sig nD τ) ℕ)) (k : Prog (TpuEff nD τ sig Val Λ .tc) PUnit)

set_option backward.isDefEq.respectTransparency.types false in
theorem wp_startAll : ∀ l : List (Copy sig),
    iprop(beforeAll c V l ∗ (flyAll c V l -∗ tcWp c defs 𝒱 Q k)) ⊢ tcWp c defs 𝒱 Q (startAll l k)
  | [] => by
    unfold beforeAll flyAll startAll
    iintro ⟨-, Hk⟩
    iapply Hk; iempintro
  | C :: l => by
    have ih := wp_startAll l
    unfold beforeAll flyAll startAll
    unfold Copy.home Copy.any Copy.cell
    unfold tcWp at ih ⊢
    iintro ⟨⟨⟨Hx, ⟨%f, Hs⟩, Hc⟩, Hl⟩, Hk⟩
    iapply (Transfers.wp_dmaLocal countersEmb 𝒱 (c : Thread nD τ) none () _ rfl (View.dmaCredit_pos _ C.pos)
      (Finset.subset_univ _)) $$ [Hx Hs Hc]
    · isplitl [Hx]; · iexact Hx
      isplitl [Hs]; · iexact Hs
      iexact Hc
    iintro Hf
    iapply ih
    isplitl [Hl]; · iexact Hl
    iintro Hl
    iapply Hk
    isplitl [Hf]
    · unfold Copy.fly
      iapply (Transfers.Flight_mono countersEmb (c : Thread nD τ) (by
        unfold Copy.land Copy.home
        iintro ⟨Hs, Hx⟩
        isplitl [Hs]
        · iexists _
          isplitr
          swap; · iexact Hs
          ipureintro
          exact View.read_write_univ _ _
        iexact Hx)) $$ Hf
    iexact Hl

set_option backward.isDefEq.respectTransparency.types false in
theorem wp_waitAll : ∀ l : List (Copy sig),
    iprop(flyAll c V l ∗ Scale.owed c ∗ (afterAll c V l -∗ Scale.owed c -∗ tcWp c defs 𝒱 Q k)) ⊢ tcWp c defs 𝒱 Q (waitAll l k)
  | [] => by
    unfold flyAll afterAll waitAll
    iintro ⟨-, HW, Hk⟩
    iapply Hk $$ [] HW; iempintro
  | C :: l => by
    have ih := wp_waitAll l
    unfold flyAll afterAll waitAll
    unfold Copy.fly
    unfold tcWp Scale.owed at ih ⊢
    iintro ⟨⟨Hf, Hl⟩, ⟨%W, HW⟩, Hk⟩
    iapply (Transfers.wp_waitLocal countersEmb 𝒱 (c : Thread nD τ) none () rfl) $$ [Hf HW]
    · isplitl [Hf]; · iexact Hf
      iexact HW
    iintro ⟨⟨Hd, Hx⟩, Hc, HW⟩
    iapply ih
    isplitl [Hl]; · iexact Hl
    isplitl [HW]; · iexists _; iexact HW
    iintro Hl HW
    iapply Hk $$ [Hd Hx Hc Hl] HW
    isplitl [Hd Hx Hc]
    · unfold Copy.cell
      isplitl [Hx]; · iexact Hx
      isplitl [Hd]; · iexact Hd
      iexact Hc
    iexact Hl

end Cert.Proof.Stream

end
-- ==== Proof.Tiles.lean ====
/-
  The kernel's scales as instances of the stream: at `C` channels and `H` positions an image is a `C × H` block, the
  weights a `255 × C` matrix, the bias a column of 255, and a result image is `W · x + b`, `255 × H`.
-/
module

public import proofs.«01_k».proof.Proof.Copies

@[expose] public section

noncomputable section

namespace Cert.Proof.Stream

open Idealize.ShloMosaic
open Idealize.ShloMosaic.TcCoe
open Idealize.SL Idealize.SL.Sem

variable {sig : RefSig} {F : FTy → Type} [FloatOps F]

abbrev Sh3 (a b c : ℕ) : Shape := ⟨3, ![a, b, c]⟩
abbrev Sh2 (a b : ℕ) : Shape := ⟨2, ![a, b]⟩
abbrev Sh1 (a : ℕ) : Shape := ⟨1, ![a]⟩
abbrev Sh0 : Shape := ⟨0, ![]⟩

/-- Block `i` of an array of `n` blocks lies in it. -/
theorem block_inb {n C H : ℕ} (i : Fin n) : ∀ a, (![i.val, 0, 0] : Fin 3 → ℕ) a + (Sh3 1 C H).size a ≤ (Sh3 n C H).size a := by
  have := i.isLt
  intro a; fin_cases a
  · show i.val + 1 ≤ n; omega
  · show 0 + C ≤ C; omega
  · show 0 + H ≤ H; omega
theorem cell_inb {n : ℕ} (i : Fin n) : ∀ a, (![i.val] : Fin 1 → ℕ) a + (Sh1 1).size a ≤ (Sh1 n).size a := by
  have := i.isLt
  intro a; fin_cases a; show i.val + 1 ≤ n; omega
theorem whole_inb {a b : ℕ} : ∀ x, (![0, 0] : Fin 2 → ℕ) x + (Sh2 a b).size x ≤ (Sh2 a b).size x := by
  intro x; fin_cases x
  · show 0 + a ≤ a; omega
  · show 0 + b ≤ b; omega

/-- Block `i` of an array of `n` blocks, as a rectangle. -/
abbrev blockRect {n : ℕ} (C H : ℕ) (i : Fin n) : Rect (Sh3 n C H) := Rect.unit (s := Sh3 n C H) ![i.val, 0, 0] (Sh3 1 C H).size (block_inb i)

/-- Block `i` of an array, as the kernel slices and squeezes it. -/
abbrev blockOf {sp : Space} {n C H : ℕ} (m : Memref sig .tc sp (Sh3 n C H) .f32) (hq : (Sh3 1 C H).Squeezes (Sh2 C H)) (i : Fin n) :
    Memref sig .tc sp (Sh2 C H) .f32 :=
  (m.slice (blockRect C H i) (fun _ => rfl)).squeeze (Sh2 C H) hq

/-- Semaphore `s` of an array of `n`. -/
abbrev cellOf {n : ℕ} (a : DmaSems sig (Sh1 n)) (hq : (Sh1 1).Squeezes Sh0) (s : Fin n) : DmaSem sig :=
  ((a.slice (Rect.unit (s := Sh1 n) ![s.val] (Sh1 1).size (cell_inb s))).squeeze Sh0 hq).sem

/-- The facts of shape one scale's text rests on. -/
structure Shapes (C H : ℕ) : Prop where
  qx : (Sh3 1 C H).Squeezes (Sh2 C H)
  qo : (Sh3 1 255 H).Squeezes (Sh2 255 H)
  q1 : (Sh1 1).Squeezes Sh0
  cx : (Sh3 1 C H).ShapeCasts (Sh2 C H)
  co : (Sh2 255 H).ShapeCasts (Sh3 1 255 H)
  bc : (Sh2 255 1).Broadcasts (Sh2 255 H)
  pw : 0 < (Sh2 255 C).numel
  pb : 0 < (Sh2 255 1).numel
  px : 0 < (Sh2 C H).numel
  po : 0 < (Sh2 255 H).numel
  px3 : 0 < (Sh3 1 C H).numel
  po3 : 0 < (Sh3 1 255 H).numel
  wf : DotDims.WF (Sh2 255 C) (Sh2 C H) (Sh2 255 H) [1] [0] [0] [1] [] []

theorem shapes0 : Shapes 256 4096 := by constructor <;> decide
theorem shapes1 : Shapes 512 1024 := by constructor <;> decide
theorem shapes2 : Shapes 1024 256 := by constructor <;> decide

/-- The product of a `255 × C` matrix and a `C × H` one. -/
def Shapes.dot {C H : ℕ} (h : Shapes C H) : DotDims (Sh2 255 C) (Sh2 C H) (Sh2 255 H) where
  lhsContracting := [1]
  rhsContracting := [0]
  lhsNonContracting := [0]
  rhsNonContracting := [1]
  lhsBatch := []
  rhsBatch := []
  wf := h.wf

/-- A result image: the weights times the image, plus the bias along every row. -/
def tile {C H : ℕ} (h : Shapes C H)
    (w : FVec F (Sh2 255 C) .f32) (x : FVec F (Sh3 1 C H) .f32) (b : FVec F (Sh2 255 1) .f32) : FVec F (Sh3 1 255 H) .f32 :=
  shapeCast (Sh3 1 255 H)
    (addf (matmul h.dot none w (shapeCast (Sh2 C H) x h.cx) (constant (Sh2 255 H) .f32 0x00000000#32)) (broadcastTo (Sh2 255 H) b h.bc)) h.co

/-- One scale, over its arrays, rings and semaphores. -/
def scaleOf {C H : ℕ} (h : Shapes C H)
    (x : Memref sig .tc .hbm (Sh3 16 C H) .f32) (o : Memref sig .tc .hbm (Sh3 16 255 H) .f32)
    (xb : Memref sig .tc .vmem (Sh3 3 C H) .f32) (ob : Memref sig .tc .vmem (Sh3 3 255 H) .f32)
    (wb : Memref sig .tc .vmem (Sh2 255 C) .f32) (bb : Memref sig .tc .vmem (Sh2 255 1) .f32)
    (isem osem : DmaSems sig (Sh1 3)) : Scale sig (Elt F) where
  xg := blockOf x h.qx
  og := blockOf o h.qo
  xb := xb
  ob := ob
  wb := wb
  bb := bb
  rx := blockRect C H
  ro := blockRect 255 H
  rw := Rect.unit (s := Sh2 255 C) ![0, 0] (Sh2 255 C).size whole_inb
  rb := Rect.unit (s := Sh2 255 1) ![0, 0] (Sh2 255 1).size whole_inb
  rx1 := fun _ _ => rfl
  ro1 := fun _ _ => rfl
  sqx := fun _ => h.qx
  sqo := fun _ => h.qo
  isem := cellOf isem h.q1
  osem := cellOf osem h.q1
  pay := fun _ w x b => tile h w x b
  wxg := fun _ => (View.wordExact_bits rfl).reshape _ _
  wog := fun _ => (View.wordExact_bits rfl).reshape _ _
  wxs := fun _ => (View.wordExact_bits rfl).reshape _ _
  wos := fun _ => (View.wordExact_bits rfl).reshape _ _
  lw := View.loadsAt_vmem h.pw
  lb := View.loadsAt_vmem h.pb
  lx := fun _ => View.loadsAt_vmem h.px3
  lo := fun _ => View.loadsAt_vmem h.po3
  sto := fun _ => View.stores_vmem_bits_univ h.po3 rfl
  posx := h.px
  poso := h.po

/-- A whole array of HBM brought to a whole buffer of VMEM, on semaphore `i` of six. -/
def copyOf {s : Shape} (src : Memref sig .tc .hbm s .f32) (hs : src.IsWhole) (dst : Memref sig .tc .vmem s .f32) (hd : dst.IsWhole)
    (a : DmaSems sig (Sh1 6)) (i : Fin 6) (hp : 0 < s.numel) : Copy sig where
  src := src
  dst := dst
  sem := cellOf a shapes0.q1 i
  wsrc := hs.wordExact
  wdst := hd.wordExact
  pos := hp

/-- The whole kernel: the copies started, the copies waited for, and the three streams one after the other. -/
def kernelText {nD : Nat} {τ : Topo} {Val : EltTy → Type} {Λ : Labels} (l : List (Copy sig)) (S₀ S₁ S₂ : Scale sig Val) :
    Prog (TpuEff nD τ sig Val Λ .tc) PUnit :=
  startAll l (waitAll l (S₀.run (S₁.run (S₂.run (.ret ⟨⟩)))))

end Cert.Proof.Stream

end
-- ==== Proof.Blocks.lean ====
/-
  An array of `n` blocks, held whole or block by block, and read block by block.
-/
module

public import proofs.«01_k».proof.Proof.Tiles
public import Idealize.ShloMosaic.Lib.ValueLayout

@[expose] public section

noncomputable section

namespace Cert.Proof.Stream

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {nD : Nat} {τ : Topo} {sig : RefSig} {Val : EltTy → Type}
local notation "𝕄" => MT nD τ sig Unit Val ℕ (UD sig nD τ) ℕ

variable {sp : Space} {n C H : ℕ} (m : Memref sig .tc sp (Sh3 n C H) .f32) (hq : (Sh3 1 C H).Squeezes (Sh2 C H))

/-- An index lies in block `i` when its leading coordinate is `i`. -/
theorem mem_block (i : Fin n) (y : (Sh3 n C H).Idx) : y ∈ (blockRect C H i).set ↔ (y 0).val = i.val := by
  have h1 : (y 1).val < C := (y 1).isLt
  have h2 : (y 2).val < H := (y 2).isLt
  rw [Rect.mem_set_unit]
  refine ⟨fun h => ?_, fun h a => ?_⟩
  · have h0 : i.val ≤ (y 0).val ∧ (y 0).val < i.val + 1 := h 0
    omega
  · match a with
    | ⟨0, _⟩ => show i.val ≤ (y 0).val ∧ (y 0).val < i.val + 1; omega
    | ⟨1, _⟩ => show 0 ≤ (y 1).val ∧ (y 1).val < 0 + C; omega
    | ⟨2, _⟩ => show 0 ≤ (y 2).val ∧ (y 2).val < 0 + H; omega

/-- The elements of block `i`. -/
abbrev blockSet (i : Fin n) : Finset m.view.ty.Idx := (blockOf m hq i).view.set

theorem block_set (i : Fin n) : (blockOf m hq i).view.set = (blockRect C H i).set.map m.view.emb :=
  (View.set_reshape _ _).trans (View.set_slice _ _)

theorem blocks_disjoint (i j : Fin n) (h : i ≠ j) : Disjoint (blockOf m hq i).view.set (blockOf m hq j).view.set := by
  rw [block_set, block_set, Finset.disjoint_map, Finset.disjoint_left]
  intro y hi hj
  rw [mem_block] at hi hj
  exact h (Fin.ext (hi.symm.trans hj))

theorem blocks_cover (hm : m.view.set = Finset.univ) :
    (Finset.univ : Finset (Fin n)).biUnion (blockSet m hq) = Finset.univ := by
  refine Finset.eq_univ_iff_forall.mpr fun y => ?_
  have hy : y ∈ m.view.set := hm ▸ Finset.mem_univ y
  obtain ⟨z, -, rfl⟩ := Finset.mem_map.mp hy
  refine Finset.mem_biUnion.mpr ⟨(z 0 : Fin n), Finset.mem_univ _, ?_⟩
  refine (Finset.ext_iff.mp (block_set m hq (z 0 : Fin n)) _).mpr ?_
  exact Finset.mem_map_of_mem _ ((mem_block _ _).mpr rfl)

/-- The array whole is its blocks; -/
theorem blocks_eq (c : Dev nD) (hm : m.view.set = Finset.univ) (f : Buf Val (m.view.loc (c : Thread nD τ))) :
    (m.view.loc (c : Thread nD τ) ↦{fullShare} f : sProp 𝕄)
      = bigSep Finset.univ fun i : Fin n => (blockOf m hq i).view.loc (c : Thread nD τ) ↦[(blockOf m hq i).view.set]{fullShare} f :=
  Ring.pointsTo_blocks (ℓ := m.view.loc (c : Thread nD τ)) (blockSet m hq)
    (blocks_disjoint m hq) (blocks_cover m hq hm) f

/-- at anything, its blocks at anything, -/
theorem blocks_open (c : Dev nD) (hm : m.view.set = Finset.univ) :
    (iprop(∃ f, m.view.loc (c : Thread nD τ) ↦{fullShare} f) : sProp 𝕄)
      ⊢ bigSep Finset.univ fun i : Fin n =>
        iprop(∃ f, (blockOf m hq i).view.loc (c : Thread nD τ) ↦[(blockOf m hq i).view.set]{fullShare} f) := by
  have h : ∀ f : Buf Val (m.view.loc (c : Thread nD τ)), iprop(m.view.loc (c : Thread nD τ) ↦{fullShare} f)
      ⊢ (iprop(bigSep Finset.univ fun i : Fin n =>
          iprop(∃ f, (blockOf m hq i).view.loc (c : Thread nD τ) ↦[(blockOf m hq i).view.set]{fullShare} f)) : sProp 𝕄) := fun f =>
    (Entails.of_eq (blocks_eq m hq c hm f)).trans (bigSep_mono fun i _ => by
      show (iprop((blockOf m hq i).view.loc (c : Thread nD τ) ↦[(blockOf m hq i).view.set]{fullShare} f) : sProp 𝕄)
        ⊢ iprop(∃ f, (blockOf m hq i).view.loc (c : Thread nD τ) ↦[(blockOf m hq i).view.set]{fullShare} f)
      iintro H; iexists f; iexact H)
  iintro ⟨%f, H⟩
  iapply (h f); iexact H

/-- and back. -/
theorem blocks_close [∀ e, Nonempty (Val e)] (c : Dev nD) (hm : m.view.set = Finset.univ) :
    (bigSep Finset.univ fun i : Fin n =>
        iprop(∃ f, (blockOf m hq i).view.loc (c : Thread nD τ) ↦[(blockOf m hq i).view.set]{fullShare} f))
      ⊢ (iprop(∃ f, m.view.loc (c : Thread nD τ) ↦{fullShare} f) : sProp 𝕄) :=
  Ring.pointsTo_blocks_join_exists (ℓ := m.view.loc (c : Thread nD τ)) (blockSet m hq)
    (blocks_disjoint m hq) (blocks_cover m hq hm)
    (fun _ => Classical.arbitrary _)

theorem squeeze_idx (hn : (Sh2 C H).numel = (Sh3 1 C H).numel) (a : Fin C) (b : Fin H) :
    Shape.reshapeEquiv hn (ix2 a b) = ix3 (0 : Fin 1) a b := reshapeEquiv_ix2_1ab hn a b

/-- Where block `i` sits. -/
theorem block_emb (i : Fin n) (a : Fin C) (b : Fin H) : (blockOf m hq i).view.emb (ix2 a b) = m.view.emb (ix3 i a b) := by
  show m.view.emb ((blockRect C H i).emb (Shape.reshapeEquiv hq.numel_eq (ix2 a b))) = _
  rw [squeeze_idx]
  refine congrArg m.view.emb (funext fun x => Fin.ext ?_)
  match x with
  | ⟨0, _⟩ => show i.val + 1 * 0 = i.val; omega
  | ⟨1, _⟩ => show 0 + 1 * a.val = a.val; omega
  | ⟨2, _⟩ => show 0 + 1 * b.val = b.val; omega

/-- What block `i` reads. -/
theorem block_read (i : Fin n) (f : m.view.ty.Contents Val) (a : Fin C) (b : Fin H) :
    (blockOf m hq i).view.read Val f (ix2 a b) = m.view.read Val f (ix3 i a b) := by
  show _root_.cast _ (f ((blockOf m hq i).view.emb (ix2 a b))) = _root_.cast _ (f (m.view.emb (ix3 i a b)))
  rw [block_emb]

/-- A block written through the slice and read through the squeeze, and the other way round. -/
theorem block_read_write (i : Fin n) (g : m.view.ty.Contents Val) (p : (Sh3 1 C H).Idx → Val .f32) (a : Fin C) (b : Fin H) :
    (blockOf m hq i).view.read Val ((m.access (blockRect C H i)).write Val g p Finset.univ) (ix2 a b) = p (ix3 (0 : Fin 1) a b) := by
  rw [← squeeze_idx hq.numel_eq a b]
  exact congrFun (View.read_write_univ (v := m.access (blockRect C H i)) g p) _

theorem block_write_read (i : Fin n) (g : m.view.ty.Contents Val) (p : (Sh2 C H).Idx → Val .f32) (a : Fin C) (b : Fin H) :
    (m.access (blockRect C H i)).read Val ((blockOf m hq i).view.write Val g p Finset.univ) (ix3 (0 : Fin 1) a b) = p (ix2 a b) := by
  rw [← squeeze_idx hq.numel_eq a b]
  exact congrFun (View.read_write_univ (v := (blockOf m hq i).view) g p) (ix2 a b)

end Cert.Proof.Stream

end
-- ==== Proof.Place.lean ====
/-
  One scale with its arrays, and the whole kernel over three of them: from the arrays held whole, the program computes
  every image of every result and gives everything else back.
-/
module

public import proofs.«01_k».proof.Proof.Blocks

@[expose] public section

noncomputable section

namespace Cert.Proof.Stream

open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (UD)
open Scale (tcWp)

/-! ## The value -/

section Value

variable {F : FTy → Type} [FloatOps F] {C H : ℕ}

/-- The weights times an image, plus the bias along every row. -/
def image (h : Shapes C H) (w : FVec F (Sh2 255 C) .f32) (x : FVec F (Sh2 C H) .f32) (b : FVec F (Sh2 255 1) .f32) : FVec F (Sh2 255 H) .f32 :=
  addf (matmul h.dot none w x (constant (Sh2 255 H) .f32 0x00000000#32)) (broadcastTo (Sh2 255 H) b h.bc)

/-- The images of a result, from the images of an operand. -/
def images (h : Shapes C H) (x : FVec F (Sh3 16 C H) .f32) (w : FVec F (Sh2 255 C) .f32) (b : FVec F (Sh2 255 1) .f32) :
    FVec F (Sh3 16 255 H) .f32 := fun j =>
  image h w (fun k : (Sh2 C H).Idx => x (ix3 (j 0 : Fin 16) (k 0 : Fin C) (k 1 : Fin H))) b (ix2 (j 1 : Fin 255) (j 2 : Fin H))

/-- What a scale stores for a block is the image of the block. -/
theorem tile_at (h : Shapes C H) (w : FVec F (Sh2 255 C) .f32) (x : FVec F (Sh3 1 C H) .f32) (b : FVec F (Sh2 255 1) .f32)
    (i : Fin 255) (j : Fin H) :
    tile h w x b (ix3 (0 : Fin 1) i j) = image h w (fun k : (Sh2 C H).Idx => x (ix3 (0 : Fin 1) (k 0 : Fin C) (k 1 : Fin H))) b (ix2 i j) := by
  unfold tile
  rw [shapeCast_ab_1ab_apply]
  have e : shapeCast (Sh2 C H) x h.cx = fun k : (Sh2 C H).Idx => x (ix3 (0 : Fin 1) (k 0 : Fin C) (k 1 : Fin H)) := by
    funext k
    rw [eq_ix2 k]
    exact shapeCast_1ab_ab_apply x h.cx _ _
  rw [e]; rfl

end Value

variable {nD : Nat} {τ : Topo} {sig : RefSig} {F : FTy → Type} [FloatOps F] {Λ : Labels}
local notation "𝕄" => MT nD τ sig Unit (Elt F) ℕ (UD sig nD τ) ℕ

/-- The arrays, buffers and semaphores of one scale: the images, the result, the weights and the bias in HBM; two rings,
    the weights and the bias in VMEM; the rings' semaphores. -/
structure Place (sig : RefSig) (C H : ℕ) where
  h : Shapes C H
  {x : Memref sig .tc .hbm (Sh3 16 C H) .f32}
  {o : Memref sig .tc .hbm (Sh3 16 255 H) .f32}
  {w : Memref sig .tc .hbm (Sh2 255 C) .f32}
  {b : Memref sig .tc .hbm (Sh2 255 1) .f32}
  {xb : Memref sig .tc .vmem (Sh3 3 C H) .f32}
  {ob : Memref sig .tc .vmem (Sh3 3 255 H) .f32}
  {wb : Memref sig .tc .vmem (Sh2 255 C) .f32}
  {bb : Memref sig .tc .vmem (Sh2 255 1) .f32}
  wx : x.IsWhole
  wo : o.IsWhole
  ww : w.IsWhole
  wb' : b.IsWhole
  wxb : xb.IsWhole
  wob : ob.IsWhole
  wwb : wb.IsWhole
  wbb : bb.IsWhole
  isem : DmaSems sig (Sh1 3)
  osem : DmaSems sig (Sh1 3)

namespace Place

variable {C H : ℕ} (P : Place sig C H) (c : Dev nD)
  (V : (r : Ref sig .tc) → Buf (Elt F) ((c : Thread nD τ).loc r))

/-- The stream of this scale, and the copies of its weights and of its bias. -/
def scale : Scale sig (Elt F) := scaleOf P.h P.x P.o P.xb P.ob P.wb P.bb P.isem P.osem
def copyW (a : DmaSems sig (Sh1 6)) (i : Fin 6) : Copy sig := copyOf P.w P.ww P.wb P.wwb a i P.h.pw
def copyB (a : DmaSems sig (Sh1 6)) (i : Fin 6) : Copy sig := copyOf P.b P.wb' P.bb P.wbb a i P.h.pb

/-- What the scale computes of the arrays' contents. -/
def value : FVec F (Sh3 16 255 H) .f32 :=
  images P.h (P.x.view.read (Elt F) (V P.x.view.ref)) (P.w.view.read (Elt F) (V P.w.view.ref)) (P.b.view.read (Elt F) (V P.b.view.ref))
/-- The result's array holding it. -/
def result : Buf (Elt F) (P.o.view.loc (c : Thread nD τ)) := P.o.view.write (Elt F) (V P.o.view.ref) (P.value c V) Finset.univ

/-- The stream's data, at weights `W` and bias `B` in VMEM. -/
def data (W : Buf (Elt F) (P.wb.view.loc (c : Thread nD τ))) (B : Buf (Elt F) (P.bb.view.loc (c : Thread nD τ))) :
    (P.scale (F := F)).Data (τ := τ) c where
  X := fun _ => V P.x.view.ref
  O := fun _ => V P.o.view.ref
  W := W
  B := B
  Y := fun i => (blockOf P.o P.h.qo i).view.read (Elt F) (P.result c V)

variable {c}

/-- An access to a whole matrix reads the matrix. -/
theorem read_matrix {a b : ℕ} {sp : Space} (m : Memref sig .tc sp (Sh2 a b) .f32) (f : m.view.ty.Contents (Elt F)) :
    (m.access (Rect.unit (s := Sh2 a b) ![0, 0] (Sh2 a b).size whole_inb)).read (Elt F) f = m.view.read (Elt F) f := by
  funext y
  refine congrArg (m.view.read (Elt F) f) (?_ : (Rect.unit (s := Sh2 a b) ![0, 0] (Sh2 a b).size whole_inb).emb y = y)
  refine funext fun x => Fin.ext ?_
  match x with
  | ⟨0, _⟩ => show 0 + 1 * (y 0).val = (y 0).val; omega
  | ⟨1, _⟩ => show 0 + 1 * (y 1).val = (y 1).val; omega

theorem computes (W : Buf (Elt F) (P.wb.view.loc (c : Thread nD τ))) (B : Buf (Elt F) (P.bb.view.loc (c : Thread nD τ)))
    (hW : P.wb.view.read (Elt F) W = P.w.view.read (Elt F) (V P.w.view.ref))
    (hB : P.bb.view.read (Elt F) B = P.b.view.read (Elt F) (V P.b.view.ref)) :
    (P.scale (F := F)).Computes (P.data c V W B) := by
  intro i f g
  funext k
  obtain ⟨a, b, rfl⟩ : ∃ (a : Fin 255) (b : Fin H), k = ix2 a b := ⟨_, _, eq_ix2 k⟩
  refine (block_read_write (Val := Elt F) P.ob P.h.qo (slot i) g _ a b).trans ?_
  refine Eq.trans ?_ (block_read (Val := Elt F) P.o P.h.qo i (P.result c V) a b).symm
  refine Eq.trans ?_ (congrFun (View.read_write_univ (v := P.o.view) (V P.o.view.ref) (P.value c V)) (ix3 i a b)).symm
  refine (tile_at P.h _ _ _ a b).trans ?_
  have ew : ((P.wb.access (Rect.unit (s := Sh2 255 C) ![0, 0] (Sh2 255 C).size whole_inb)).read (Elt F) W) = P.w.view.read (Elt F) (V P.w.view.ref) :=
    (read_matrix P.wb W).trans hW
  have eb : ((P.bb.access (Rect.unit (s := Sh2 255 1) ![0, 0] (Sh2 255 1).size whole_inb)).read (Elt F) B) = P.b.view.read (Elt F) (V P.b.view.ref) :=
    (read_matrix P.bb B).trans hB
  have ex : (fun k : (Sh2 C H).Idx => (P.scale (F := F)).landed (P.data c V W B) i f (ix3 (0 : Fin 1) (k 0 : Fin C) (k 1 : Fin H)))
      = fun k : (Sh2 C H).Idx => P.x.view.read (Elt F) (V P.x.view.ref) (ix3 i (k 0 : Fin C) (k 1 : Fin H)) := by
    funext k
    refine (block_write_read (Val := Elt F) P.xb P.h.qx (slot i) f _ (k 0 : Fin C) (k 1 : Fin H)).trans ?_
    exact block_read (Val := Elt F) P.x P.h.qx i (V P.x.view.ref) _ _
  show image P.h ((P.wb.access (Rect.unit (s := Sh2 255 C) ![0, 0] (Sh2 255 C).size whole_inb)).read (Elt F) W)
    (fun k : (Sh2 C H).Idx => (P.scale (F := F)).landed (P.data c V W B) i f (ix3 (0 : Fin 1) (k 0 : Fin C) (k 1 : Fin H)))
    ((P.bb.access (Rect.unit (s := Sh2 255 1) ![0, 0] (Sh2 255 1).size whole_inb)).read (Elt F) B) (ix2 a b) = _
  rw [ew, eb, ex]
  rfl

/-! ## The arrays held -/

variable (c)

/-- A buffer at anything. -/
abbrev anyAt {sp : Space} {s : Shape} {e : EltTy} (m : Memref sig .tc sp s e) : sProp 𝕄 :=
  iprop(∃ f, m.view.loc (c : Thread nD τ) ↦{fullShare} f)
/-- A buffer at its contents. -/
abbrev heldAt {sp : Space} {s : Shape} {e : EltTy} (m : Memref sig .tc sp s e) : sProp 𝕄 :=
  m.view.loc (c : Thread nD τ) ↦{fullShare} V m.view.ref
/-- The result's array at `g`. -/
abbrev resAt (g : Buf (Elt F) (P.o.view.loc (c : Thread nD τ))) : sProp 𝕄 := P.o.view.loc (c : Thread nD τ) ↦{fullShare} g
/-- Three semaphores at zero. -/
abbrev zeros (a : DmaSems sig (Sh1 3)) : sProp 𝕄 :=
  bigSep Finset.univ fun s : Fin 3 => semVal ((c : Thread nD τ), SemLoc.dma (cellOf a P.h.q1 s)) 0

/-- The rings and semaphores of the scale. -/
def rings : sProp 𝕄 := iprop(anyAt c P.xb ∗ anyAt c P.ob ∗ zeros P c P.isem ∗ zeros P c P.osem)
/-- Everything the scale takes, the result's array at `g`. -/
def held (g : Buf (Elt F) (P.o.view.loc (c : Thread nD τ))) : sProp 𝕄 :=
  iprop(heldAt c V P.x ∗ heldAt c V P.w ∗ heldAt c V P.b ∗ resAt P c g
    ∗ rings P c ∗ anyAt c P.wb ∗ anyAt c P.bb)

theorem ring_open {C H : ℕ} (m : Memref sig .tc .vmem (Sh3 3 C H) .f32) (hq : (Sh3 1 C H).Squeezes (Sh2 C H)) (hm : m.IsWhole)
    (Φ : Fin 3 → sProp (MT nD τ sig Unit (Elt F) ℕ (UD sig nD τ) ℕ)) :
    iprop(anyAt c m ∗ bigSep Finset.univ Φ) ⊢ iprop(bigSep Finset.univ fun s : Fin 3 =>
      iprop((∃ f, (blockOf m hq s).view.loc (c : Thread nD τ) ↦[(blockOf m hq s).view.set]{fullShare} f) ∗ Φ s)) := by
  have e : iprop((bigSep Finset.univ fun s : Fin 3 =>
        iprop(∃ f, (blockOf m hq s).view.loc (c : Thread nD τ) ↦[(blockOf m hq s).view.set]{fullShare} f)) ∗ bigSep Finset.univ Φ)
      ⊢ iprop(bigSep Finset.univ fun s : Fin 3 =>
        iprop((∃ f, (blockOf m hq s).view.loc (c : Thread nD τ) ↦[(blockOf m hq s).view.set]{fullShare} f) ∗ Φ s)) :=
    Entails.of_eq (bigSep_sep _ _ _).symm
  iintro ⟨Hm, H⟩
  iapply e
  isplitl [Hm]
  · iapply (blocks_open m hq c hm.set_eq_univ); iexact Hm
  iexact H

theorem ring_close {C H : ℕ} (m : Memref sig .tc .vmem (Sh3 3 C H) .f32) (hq : (Sh3 1 C H).Squeezes (Sh2 C H)) (hm : m.IsWhole)
    (Φ : Fin 3 → sProp (MT nD τ sig Unit (Elt F) ℕ (UD sig nD τ) ℕ)) :
    iprop(bigSep Finset.univ fun s : Fin 3 =>
      iprop((∃ f, (blockOf m hq s).view.loc (c : Thread nD τ) ↦[(blockOf m hq s).view.set]{fullShare} f) ∗ Φ s))
      ⊢ iprop(anyAt c m ∗ bigSep Finset.univ Φ) := by
  have e : iprop(bigSep Finset.univ fun s : Fin 3 =>
        iprop((∃ f, (blockOf m hq s).view.loc (c : Thread nD τ) ↦[(blockOf m hq s).view.set]{fullShare} f) ∗ Φ s))
      ⊢ iprop((bigSep Finset.univ fun s : Fin 3 =>
        iprop(∃ f, (blockOf m hq s).view.loc (c : Thread nD τ) ↦[(blockOf m hq s).view.set]{fullShare} f)) ∗ bigSep Finset.univ Φ) :=
    Entails.of_eq (bigSep_sep _ _ _)
  iintro H
  ihave H := e $$ H
  icases H with ⟨Hm, H⟩
  isplitl [Hm]
  · iapply (blocks_close m hq c hm.set_eq_univ); iexact Hm
  iexact H

/-- A result image as computed is the result's array there. -/
theorem done_eq (W : Buf (Elt F) (P.wb.view.loc (c : Thread nD τ))) (B : Buf (Elt F) (P.bb.view.loc (c : Thread nD τ))) :
    bigSep Finset.univ ((P.scale (F := F)).odone (P.data c V W B))
      = (P.o.view.loc (c : Thread nD τ) ↦{fullShare} P.result c V : sProp 𝕄) := by
  rw [blocks_eq P.o P.h.qo c P.wo.set_eq_univ]
  refine bigSep_congr fun i _ => ?_
  refine pointsTo_congr fun y hy => ?_
  obtain ⟨k, -, rfl⟩ := Finset.mem_map.mp hy
  exact (View.write_emb_of_mem (v := (blockOf P.o P.h.qo i).view) _ _ (Finset.mem_univ k)).trans (by
    show _root_.cast _ (_root_.cast _ (P.result c V ((blockOf P.o P.h.qo i).view.emb k))) = _
    rw [cast_cast, cast_eq]; rfl)

variable (defs : Defs nD τ sig (Elt F) Λ) (𝒱 : Variants)
  (Q : PUnit → sProp (MT nD τ sig Unit (Elt F) ℕ (UD sig nD τ) ℕ)) (k : Prog (TpuEff nD τ sig (Elt F) Λ .tc) PUnit)

/-- ONE SCALE over its arrays: the weights and the bias in VMEM, the result computed. -/
theorem wp_scale (a : DmaSems sig (Sh1 6)) (i j : Fin 6) :
    iprop((heldAt c V P.x ∗ resAt P c (V P.o.view.ref) ∗ rings P c
        ∗ (P.copyW a i).land c (fun K => V K.src.view.ref) ∗ (P.copyB a j).land c (fun K => V K.src.view.ref) ∗ Scale.owed c)
      ∗ ((heldAt c V P.x ∗ resAt P c (P.result c V) ∗ rings P c
        ∗ anyAt c P.wb ∗ anyAt c P.bb ∗ Scale.owed c) -∗ tcWp c defs 𝒱 Q k)) ⊢ tcWp c defs 𝒱 Q (P.scale.run k) := by
  unfold Copy.land
  iintro ⟨⟨Hx, Ho, Hr, ⟨%W, %hW, Hw⟩, ⟨%B, %hB, Hb⟩, HW⟩, Hk⟩
  iapply (P.scale.wp_run (P.data c V W B) defs 𝒱 Q k (P.computes V W B hW hB))
  unfold rings
  icases Hr with ⟨Hxb, Hob, Hi, Hs⟩
  isplitr [Hk]
  · unfold Scale.frameOf
    isplitl [Hx]
    · iapply (Entails.of_eq (blocks_eq P.x P.h.qx c P.wx.set_eq_univ (V P.x.view.ref))); iexact Hx
    isplitl [Hxb Hi]
    · iapply (ring_open c P.xb P.h.qx P.wxb _)
      isplitl [Hxb]; · iexact Hxb
      iexact Hi
    isplitl [Ho]
    · iapply (Entails.of_eq (blocks_eq P.o P.h.qo c P.wo.set_eq_univ (V P.o.view.ref))); iexact Ho
    isplitl [Hob Hs]
    · iapply (ring_open c P.ob P.h.qo P.wob _)
      isplitl [Hob]; · iexact Hob
      iexact Hs
    isplitl [Hw]; · unfold Scale.wP; iexact Hw
    isplitl [Hb]; · unfold Scale.bP; iexact Hb
    iexact HW
  · unfold Scale.frameOf
    iintro ⟨Hx, Hxs, Ho, Hos, Hw, Hb, HW⟩
    iapply Hk
    ihave Hxs := (show iprop(bigSep Finset.univ (fun s => iprop((P.scale (F := F)).xany c s ∗ (P.scale (F := F)).icell c s)))
        ⊢ (iprop(anyAt c P.xb ∗ bigSep Finset.univ (fun s => (P.scale (F := F)).icell c s)) : sProp 𝕄) from
      ring_close c P.xb P.h.qx P.wxb _) $$ Hxs
    ihave Hos := (show iprop(bigSep Finset.univ (fun s => iprop((P.scale (F := F)).oany c s ∗ (P.scale (F := F)).ocell c s)))
        ⊢ (iprop(anyAt c P.ob ∗ bigSep Finset.univ (fun s => (P.scale (F := F)).ocell c s)) : sProp 𝕄) from
      ring_close c P.ob P.h.qo P.wob _) $$ Hos
    icases Hxs with ⟨Hxb, Hi⟩
    icases Hos with ⟨Hob, Hs⟩
    isplitl [Hx]
    · iapply (Entails.of_eq (blocks_eq P.x P.h.qx c P.wx.set_eq_univ (V P.x.view.ref)).symm); iexact Hx
    isplitl [Ho]
    · iapply (Entails.of_eq (done_eq P c V W B)); iexact Ho
    isplitl [Hxb Hi Hob Hs]
    · isplitl [Hxb]; · iexact Hxb
      isplitl [Hob]; · iexact Hob
      isplitl [Hi]; · iexact Hi
      iexact Hs
    isplitl [Hw]; · unfold Scale.wP; iexists _; iexact Hw
    isplitl [Hb]; · unfold Scale.bP; iexists _; iexact Hb
    iexact HW

end Place

/-! ## The kernel -/

section Kernel

variable {C₀ H₀ C₁ H₁ C₂ H₂ : ℕ} (P₀ : Place sig C₀ H₀) (P₁ : Place sig C₁ H₁) (P₂ : Place sig C₂ H₂) (a : DmaSems sig (Sh1 6))
  (c : Dev nD) (V : (r : Ref sig .tc) → Buf (Elt F) ((c : Thread nD τ).loc r))

/-- The six copies, in the kernel's order. -/
def sixCopies : List (Copy sig) := [P₀.copyW a 0, P₀.copyB a 1, P₁.copyW a 2, P₁.copyB a 3, P₂.copyW a 4, P₂.copyB a 5]

/-- Six semaphores at zero. -/
def sixZeros : sProp 𝕄 :=
  iprop((P₀.copyW a 0).cell c ∗ (P₀.copyB a 1).cell c ∗ (P₁.copyW a 2).cell c ∗ (P₁.copyB a 3).cell c
    ∗ (P₂.copyW a 4).cell c ∗ (P₂.copyB a 5).cell c)

variable (defs : Defs nD τ sig (Elt F) Λ) (𝒱 : Variants)
  (Q : PUnit → sProp (MT nD τ sig Unit (Elt F) ℕ (UD sig nD τ) ℕ))

theorem home_eq {C H : ℕ} (P : Place sig C H) (i : Fin 6) :
    (P.copyW a i).home c (fun K => V K.src.view.ref) = (Place.heldAt c V P.w : sProp 𝕄) := by
  unfold Copy.home
  exact congrArg (fun S => (P.w.view.loc (c : Thread nD τ) ↦[S]{fullShare} V P.w.view.ref : sProp 𝕄)) P.ww.set_eq_univ
theorem home_eq' {C H : ℕ} (P : Place sig C H) (i : Fin 6) :
    (P.copyB a i).home c (fun K => V K.src.view.ref) = (Place.heldAt c V P.b : sProp 𝕄) := by
  unfold Copy.home
  exact congrArg (fun S => (P.b.view.loc (c : Thread nD τ) ↦[S]{fullShare} V P.b.view.ref : sProp 𝕄)) P.wb'.set_eq_univ

/-- What the six copies leave. -/
theorem after_six : afterAll c (fun K => V K.src.view.ref) (sixCopies P₀ P₁ P₂ a)
    ⊢ (iprop((Place.heldAt c V P₀.w ∗ (P₀.copyW a 0).land c (fun K => V K.src.view.ref) ∗ (P₀.copyW a 0).cell c)
      ∗ (Place.heldAt c V P₀.b ∗ (P₀.copyB a 1).land c (fun K => V K.src.view.ref) ∗ (P₀.copyB a 1).cell c)
      ∗ (Place.heldAt c V P₁.w ∗ (P₁.copyW a 2).land c (fun K => V K.src.view.ref) ∗ (P₁.copyW a 2).cell c)
      ∗ (Place.heldAt c V P₁.b ∗ (P₁.copyB a 3).land c (fun K => V K.src.view.ref) ∗ (P₁.copyB a 3).cell c)
      ∗ (Place.heldAt c V P₂.w ∗ (P₂.copyW a 4).land c (fun K => V K.src.view.ref) ∗ (P₂.copyW a 4).cell c)
      ∗ (Place.heldAt c V P₂.b ∗ (P₂.copyB a 5).land c (fun K => V K.src.view.ref) ∗ (P₂.copyB a 5).cell c)
      ∗ emp) : sProp 𝕄) := by
  rw [← home_eq a c V P₀ 0, ← home_eq' a c V P₀ 1, ← home_eq a c V P₁ 2, ← home_eq' a c V P₁ 3, ← home_eq a c V P₂ 4, ← home_eq' a c V P₂ 5]
  exact Entails.of_eq rfl

/-- THE KERNEL: every result computed, everything else as it was. -/
theorem wp_kernel :
    iprop(P₀.held c V (V P₀.o.view.ref) ∗ P₁.held c V (V P₁.o.view.ref) ∗ P₂.held c V (V P₂.o.view.ref)
      ∗ sixZeros P₀ P₁ P₂ a c ∗ Scale.owed c
      ∗ (P₀.held c V (P₀.result c V) -∗ P₁.held c V (P₁.result c V) -∗ P₂.held c V (P₂.result c V)
        -∗ sixZeros P₀ P₁ P₂ a c -∗ Scale.owed c -∗ Q ⟨⟩))
      ⊢ tcWp c defs 𝒱 Q (kernelText (sixCopies P₀ P₁ P₂ a) P₀.scale P₁.scale P₂.scale) := by
  unfold Place.held sixZeros kernelText
  iintro ⟨⟨Hx0, Hw0, Hb0, Ho0, Hr0, Hwb0, Hbb0⟩, ⟨Hx1, Hw1, Hb1, Ho1, Hr1, Hwb1, Hbb1⟩, ⟨Hx2, Hw2, Hb2, Ho2, Hr2, Hwb2, Hbb2⟩,
    ⟨Hs0, Hs1, Hs2, Hs3, Hs4, Hs5⟩, HW, Hk⟩
  iapply (wp_startAll c (fun K => V K.src.view.ref) defs 𝒱 Q _ (sixCopies P₀ P₁ P₂ a))
  isplitl [Hw0 Hb0 Hwb0 Hbb0 Hw1 Hb1 Hwb1 Hbb1 Hw2 Hb2 Hwb2 Hbb2 Hs0 Hs1 Hs2 Hs3 Hs4 Hs5]
  · unfold sixCopies; unfold beforeAll beforeAll beforeAll beforeAll beforeAll beforeAll beforeAll
    simp only [home_eq, home_eq']
    isplitl [Hw0 Hwb0 Hs0]
    · isplitl [Hw0]; · iexact Hw0
      isplitl [Hwb0]; · unfold Copy.any; iexact Hwb0
      iexact Hs0
    isplitl [Hb0 Hbb0 Hs1]
    · isplitl [Hb0]; · iexact Hb0
      isplitl [Hbb0]; · unfold Copy.any; iexact Hbb0
      iexact Hs1
    isplitl [Hw1 Hwb1 Hs2]
    · isplitl [Hw1]; · iexact Hw1
      isplitl [Hwb1]; · unfold Copy.any; iexact Hwb1
      iexact Hs2
    isplitl [Hb1 Hbb1 Hs3]
    · isplitl [Hb1]; · iexact Hb1
      isplitl [Hbb1]; · unfold Copy.any; iexact Hbb1
      iexact Hs3
    isplitl [Hw2 Hwb2 Hs4]
    · isplitl [Hw2]; · iexact Hw2
      isplitl [Hwb2]; · unfold Copy.any; iexact Hwb2
      iexact Hs4
    isplitl [Hb2 Hbb2 Hs5]
    · isplitl [Hb2]; · iexact Hb2
      isplitl [Hbb2]; · unfold Copy.any; iexact Hbb2
      iexact Hs5
    iempintro
  iintro Hf
  iapply (wp_waitAll c (fun K => V K.src.view.ref) defs 𝒱 Q _ (sixCopies P₀ P₁ P₂ a))
  isplitl [Hf]; · iexact Hf
  isplitl [HW]; · iexact HW
  iintro Ha HW
  ihave Ha := (after_six P₀ P₁ P₂ a c V) $$ Ha
  icases Ha with ⟨⟨Hw0, Hwb0, Hs0⟩, ⟨Hb0, Hbb0, Hs1⟩, ⟨Hw1, Hwb1, Hs2⟩, ⟨Hb1, Hbb1, Hs3⟩, ⟨Hw2, Hwb2, Hs4⟩, ⟨Hb2, Hbb2, Hs5⟩, -⟩
  iapply (P₀.wp_scale c V defs 𝒱 Q _ a 0 1)
  isplitl [Hx0 Ho0 Hr0 Hwb0 Hbb0 HW]
  · isplitl [Hx0]; · iexact Hx0
    isplitl [Ho0]; · iexact Ho0
    isplitl [Hr0]; · iexact Hr0
    isplitl [Hwb0]; · iexact Hwb0
    isplitl [Hbb0]; · iexact Hbb0
    iexact HW
  iintro ⟨Hx0, Ho0, Hr0, Hwb0, Hbb0, HW⟩
  iapply (P₁.wp_scale c V defs 𝒱 Q _ a 2 3)
  isplitl [Hx1 Ho1 Hr1 Hwb1 Hbb1 HW]
  · isplitl [Hx1]; · iexact Hx1
    isplitl [Ho1]; · iexact Ho1
    isplitl [Hr1]; · iexact Hr1
    isplitl [Hwb1]; · iexact Hwb1
    isplitl [Hbb1]; · iexact Hbb1
    iexact HW
  iintro ⟨Hx1, Ho1, Hr1, Hwb1, Hbb1, HW⟩
  iapply (P₂.wp_scale c V defs 𝒱 Q _ a 4 5)
  isplitl [Hx2 Ho2 Hr2 Hwb2 Hbb2 HW]
  · isplitl [Hx2]; · iexact Hx2
    isplitl [Ho2]; · iexact Ho2
    isplitl [Hr2]; · iexact Hr2
    isplitl [Hwb2]; · iexact Hwb2
    isplitl [Hbb2]; · iexact Hbb2
    iexact HW
  iintro ⟨Hx2, Ho2, Hr2, Hwb2, Hbb2, HW⟩
  unfold tcWp
  irw [wp_ret]
  imodintro
  iapply Hk $$ [Hx0 Hw0 Hb0 Ho0 Hr0 Hwb0 Hbb0] [Hx1 Hw1 Hb1 Ho1 Hr1 Hwb1 Hbb1] [Hx2 Hw2 Hb2 Ho2 Hr2 Hwb2 Hbb2] [Hs0 Hs1 Hs2 Hs3 Hs4 Hs5] HW
  · isplitl [Hx0]; · iexact Hx0
    isplitl [Hw0]; · iexact Hw0
    isplitl [Hb0]; · iexact Hb0
    isplitl [Ho0]; · iexact Ho0
    isplitl [Hr0]; · iexact Hr0
    isplitl [Hwb0]; · iexact Hwb0
    iexact Hbb0
  · isplitl [Hx1]; · iexact Hx1
    isplitl [Hw1]; · iexact Hw1
    isplitl [Hb1]; · iexact Hb1
    isplitl [Ho1]; · iexact Ho1
    isplitl [Hr1]; · iexact Hr1
    isplitl [Hwb1]; · iexact Hwb1
    iexact Hbb1
  · isplitl [Hx2]; · iexact Hx2
    isplitl [Hw2]; · iexact Hw2
    isplitl [Hb2]; · iexact Hb2
    isplitl [Ho2]; · iexact Ho2
    isplitl [Hr2]; · iexact Hr2
    isplitl [Hwb2]; · iexact Hwb2
    iexact Hbb2
  · isplitl [Hs0]; · iexact Hs0
    isplitl [Hs1]; · iexact Hs1
    isplitl [Hs2]; · iexact Hs2
    isplitl [Hs3]; · iexact Hs3
    isplitl [Hs4]; · iexact Hs4
    iexact Hs5

end Kernel

end Cert.Proof.Stream

end
-- ==== Proof.Gather.lean ====
/-
  The same resources in two arrangements: buffer by buffer, the way a launch hands them out, and scale by scale, the way the
  kernel takes them.
-/
module

public import proofs.«01_k».proof.Proof.Place

@[expose] public section

noncomputable section

namespace Cert.Proof.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)

variable {nD : Nat} {τ : Topo} {sig : RefSig} {F : FTy → Type} [FloatOps F]
local notation "𝕄" => MT nD τ sig Unit (Elt F) ℕ (UD sig nD τ) ℕ

/-- One semaphore of three, at zero. -/
abbrev oneZero (c : Dev nD) (hq : (Sh1 1).Squeezes Sh0) (a : DmaSems sig (Sh1 3)) (s : Fin 3) : sProp 𝕄 :=
  semVal ((c : Thread nD τ), SemLoc.dma (cellOf a hq s)) 0

theorem zeros_eq {C H : ℕ} (P : Place sig C H) (c : Dev nD) (a : DmaSems sig (Sh1 3)) :
    (P.zeros c a : sProp 𝕄) = iprop(oneZero c P.h.q1 a 0 ∗ oneZero c P.h.q1 a 1 ∗ oneZero c P.h.q1 a 2) :=
  bigSep_univ_eq_bigSepL [0, 1, 2] (by decide) (by decide) _

variable {C₀ H₀ C₁ H₁ C₂ H₂ : ℕ} (P₀ : Place sig C₀ H₀) (P₁ : Place sig C₁ H₁) (P₂ : Place sig C₂ H₂) (a : DmaSems sig (Sh1 6))
  (c : Dev nD) (V : (r : Ref sig .tc) → Buf (Elt F) ((c : Thread nD τ).loc r))
  (g₀ : Buf (Elt F) (P₀.o.view.loc (c : Thread nD τ))) (g₁ : Buf (Elt F) (P₁.o.view.loc (c : Thread nD τ)))
  (g₂ : Buf (Elt F) (P₂.o.view.loc (c : Thread nD τ)))

/-- The VMEM buffers, at anything. -/
def flatBufs : sProp 𝕄 :=
  iprop(Place.anyAt c P₀.xb ∗ Place.anyAt c P₀.ob ∗ Place.anyAt c P₀.wb ∗ Place.anyAt c P₀.bb
    ∗ Place.anyAt c P₁.xb ∗ Place.anyAt c P₁.ob ∗ Place.anyAt c P₁.wb ∗ Place.anyAt c P₁.bb
    ∗ Place.anyAt c P₂.xb ∗ Place.anyAt c P₂.ob ∗ Place.anyAt c P₂.wb ∗ Place.anyAt c P₂.bb)
/-- The semaphores, at zero. -/
def flatSems : sProp 𝕄 :=
  iprop(oneZero c P₀.h.q1 P₀.isem 0 ∗ oneZero c P₀.h.q1 P₀.isem 1 ∗ oneZero c P₀.h.q1 P₀.isem 2
    ∗ oneZero c P₀.h.q1 P₀.osem 0 ∗ oneZero c P₀.h.q1 P₀.osem 1 ∗ oneZero c P₀.h.q1 P₀.osem 2
    ∗ oneZero c P₁.h.q1 P₁.isem 0 ∗ oneZero c P₁.h.q1 P₁.isem 1 ∗ oneZero c P₁.h.q1 P₁.isem 2
    ∗ oneZero c P₁.h.q1 P₁.osem 0 ∗ oneZero c P₁.h.q1 P₁.osem 1 ∗ oneZero c P₁.h.q1 P₁.osem 2
    ∗ oneZero c P₂.h.q1 P₂.isem 0 ∗ oneZero c P₂.h.q1 P₂.isem 1 ∗ oneZero c P₂.h.q1 P₂.isem 2
    ∗ oneZero c P₂.h.q1 P₂.osem 0 ∗ oneZero c P₂.h.q1 P₂.osem 1 ∗ oneZero c P₂.h.q1 P₂.osem 2
    ∗ (P₀.copyW a 0).cell c ∗ (P₀.copyB a 1).cell c ∗ (P₁.copyW a 2).cell c ∗ (P₁.copyB a 3).cell c
    ∗ (P₂.copyW a 4).cell c ∗ (P₂.copyB a 5).cell c)
/-- The arrays read, at their contents. -/
def flatReads : sProp 𝕄 :=
  iprop(Place.heldAt c V P₀.x ∗ Place.heldAt c V P₁.x ∗ Place.heldAt c V P₂.x
    ∗ Place.heldAt c V P₀.w ∗ Place.heldAt c V P₁.w ∗ Place.heldAt c V P₂.w
    ∗ Place.heldAt c V P₀.b ∗ Place.heldAt c V P₁.b ∗ Place.heldAt c V P₂.b)
/-- The results' arrays. -/
def flatResults : sProp 𝕄 := iprop(Place.resAt P₀ c g₀ ∗ Place.resAt P₁ c g₁ ∗ Place.resAt P₂ c g₂)

/-- From buffer by buffer to scale by scale. -/
theorem gather : iprop(flatBufs P₀ P₁ P₂ c ∗ flatSems P₀ P₁ P₂ a c ∗ flatReads P₀ P₁ P₂ c V ∗ flatResults P₀ P₁ P₂ c g₀ g₁ g₂)
    ⊢ (iprop(P₀.held c V g₀ ∗ P₁.held c V g₁ ∗ P₂.held c V g₂ ∗ sixZeros P₀ P₁ P₂ a c) : sProp 𝕄) := by
  unfold flatBufs flatSems flatReads flatResults Place.held Place.rings sixZeros
  rw [zeros_eq P₀, zeros_eq P₀, zeros_eq P₁, zeros_eq P₁, zeros_eq P₂, zeros_eq P₂]
  iintro ⟨⟨Hx0, Ho0, Hw0, Hb0, Hx1, Ho1, Hw1, Hb1, Hx2, Ho2, Hw2, Hb2⟩,
    ⟨H0, H1, H2, H3, H4, H5, H6, H7, H8, H9, H10, H11, H12, H13, H14, H15, H16, H17, H18, H19, H20, H21, H22, H23⟩,
    ⟨Kx0, Kx1, Kx2, Kw0, Kw1, Kw2, Kb0, Kb1, Kb2⟩, ⟨R0, R1, R2⟩⟩
  iframe Kx0 Kw0 Kb0 R0 Hx0 Ho0 H0 H1 H2 H3 H4 H5 Hw0 Hb0
  iframe Kx1 Kw1 Kb1 R1 Hx1 Ho1 H6 H7 H8 H9 H10 H11 Hw1 Hb1
  iframe Kx2 Kw2 Kb2 R2 Hx2 Ho2 H12 H13 H14 H15 H16 H17 Hw2 Hb2
  iframe H18 H19 H20 H21 H22 H23

/-- And back. -/
theorem scatter : (iprop(P₀.held c V g₀ ∗ P₁.held c V g₁ ∗ P₂.held c V g₂ ∗ sixZeros P₀ P₁ P₂ a c) : sProp 𝕄)
    ⊢ iprop(flatBufs P₀ P₁ P₂ c ∗ flatSems P₀ P₁ P₂ a c ∗ flatReads P₀ P₁ P₂ c V ∗ flatResults P₀ P₁ P₂ c g₀ g₁ g₂) := by
  unfold flatBufs flatSems flatReads flatResults Place.held Place.rings sixZeros
  rw [zeros_eq P₀, zeros_eq P₀, zeros_eq P₁, zeros_eq P₁, zeros_eq P₂, zeros_eq P₂]
  iintro ⟨⟨Kx0, Kw0, Kb0, R0, ⟨Hx0, Ho0, ⟨H0, H1, H2⟩, ⟨H3, H4, H5⟩⟩, Hw0, Hb0⟩,
    ⟨Kx1, Kw1, Kb1, R1, ⟨Hx1, Ho1, ⟨H6, H7, H8⟩, ⟨H9, H10, H11⟩⟩, Hw1, Hb1⟩,
    ⟨Kx2, Kw2, Kb2, R2, ⟨Hx2, Ho2, ⟨H12, H13, H14⟩, ⟨H15, H16, H17⟩⟩, Hw2, Hb2⟩, ⟨H18, H19, H20, H21, H22, H23⟩⟩
  iframe Hx0 Ho0 Hw0 Hb0 Hx1 Ho1 Hw1 Hb1 Hx2 Ho2 Hw2 Hb2
  iframe H0 H1 H2 H3 H4 H5 H6 H7 H8 H9 H10 H11 H12 H13 H14 H15 H16 H17 H18 H19 H20 H21 H22 H23
  iframe Kx0 Kx1 Kx2 Kw0 Kw1 Kw2 Kb0 Kb1 Kb2
  iframe R0 R1 R2

end Cert.Proof.Stream

end
-- ==== Proof.KernelBody.lean ====
/-
  The printed body of the kernel is six whole copies and three streams, at the three scales' places.
-/
module

public import proofs.«01_k».proof.Proof.Gather
public import proofs.«01_k».proof.Proof.Gen.Kernel.Points
public import Idealize.ShloMosaic.Lib.Pipeline.Regions

@[expose] public section

noncomputable section

namespace Cert.Kernel.Launching

open Cert.Kernel Cert.Kernel.Gen Cert.Proof.Stream
open Idealize.ShloMosaic Idealize.ShloMosaic.TcCoe
open Idealize.SL Idealize.SL.Sem

variable {F : FTy → Type} [FloatOps F]

/-- The arrays of the three scales. -/
def place0 : Place sig 256 4096 where
  h := shapes0
  wx := Memref.isWhole_whole main_v0
  wo := Memref.isWhole_whole main_v9_0
  ww := Memref.isWhole_whole main_v3
  wb' := Memref.isWhole_whole main_v6
  wxb := Memref.isWhole_whole cc0_scratch0
  wob := Memref.isWhole_whole cc0_scratch1
  wwb := Memref.isWhole_whole cc0_scratch2
  wbb := Memref.isWhole_whole cc0_scratch3
  isem := cc0_scratch4
  osem := cc0_scratch5
def place1 : Place sig 512 1024 where
  h := shapes1
  wx := Memref.isWhole_whole main_v1
  wo := Memref.isWhole_whole main_v9_1
  ww := Memref.isWhole_whole main_v4
  wb' := Memref.isWhole_whole main_v7
  wxb := Memref.isWhole_whole cc0_scratch6
  wob := Memref.isWhole_whole cc0_scratch7
  wwb := Memref.isWhole_whole cc0_scratch8
  wbb := Memref.isWhole_whole cc0_scratch9
  isem := cc0_scratch10
  osem := cc0_scratch11
def place2 : Place sig 1024 256 where
  h := shapes2
  wx := Memref.isWhole_whole main_v2
  wo := Memref.isWhole_whole main_v9_2
  ww := Memref.isWhole_whole main_v5
  wb' := Memref.isWhole_whole main_v8
  wxb := Memref.isWhole_whole cc0_scratch12
  wob := Memref.isWhole_whole cc0_scratch13
  wwb := Memref.isWhole_whole cc0_scratch14
  wbb := Memref.isWhole_whole cc0_scratch15
  isem := cc0_scratch16
  osem := cc0_scratch17

theorem body_eq (t : Fin cfg0.N) : (bodyAt0 t : Prog (TpuEff nD τ sig (Elt F) Λ₀ .tc) PUnit)
    = kernelText (sixCopies place0 place1 place2 cc0_scratch18) place0.scale place1.scale place2.scale := by
  chain_rfl

end Cert.Kernel.Launching

end
-- ==== Proof.KernelLaunch.lean ====
/-
  The launch of the kernel: every run ends, with the arguments and the counters as they were and each result computed.
-/
module

public import proofs.«01_k».proof.Proof.KernelBody
public import proofs.«01_k».proof.Proof.Gen.Kernel.Launch
public import proofs.«01_k».proof.Proof.Gen.Kernel.Frame
public import Idealize.ShloMosaic.Lib.Pipeline.FrameSuffixV

@[expose] public section

noncomputable section

namespace Cert.Kernel.Launching

open Cert.Kernel Cert.Kernel.Gen Cert.Proof.Stream
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation UD)

variable {F : FTy → Type} [FloatOps F]
local notation "𝕄" => MT nD τ sig Unit (Elt F) ℕ (UD sig nD τ) ℕ

variable (m : (ℓ : Loc nD τ sig) → Buf (Elt F) ℓ) (ρ : Dev nD → PrngReg)

/-- The kernel's 24 semaphores. -/
def osem (k : Fin 24) : SemLoc sig := .dma k
theorem ownSemFacts : Pipeline.OwnSemFacts cfg0.spec osem := by decide

/-- The arrays that the kernel reads, and those that it writes. -/
def reads : Finset (Ref sig .tc) := {main_v0, main_v1, main_v2, main_v3, main_v4, main_v5, main_v6, main_v7, main_v8}
def writes : Finset (Ref sig .tc) := {main_v9_0, main_v9_1, main_v9_2}

/-- The three results, as the kernel leaves them. -/
def result0 (c : Dev nD) : Buf (Elt F) ((c : Thread nD τ).loc main_v9_0) := place0.result c (V m c)
def result1 (c : Dev nD) : Buf (Elt F) ((c : Thread nD τ).loc main_v9_1) := place1.result c (V m c)
def result2 (c : Dev nD) : Buf (Elt F) ((c : Thread nD τ).loc main_v9_2) := place2.result c (V m c)

/-- The contents at the region's end: the three results computed, the rest as it was at the region's start. -/
def final (c : Dev nD) : (b : Ref sig .tc) → Buf (Elt F) ((c : Thread nD τ).loc b) :=
  Function.update (Function.update (Function.update (V m c) main_v9_0 (result0 m c)) main_v9_1 (result1 m c)) main_v9_2 (result2 m c)

theorem final_0 (c : Dev nD) : final m c main_v9_0 = result0 m c := by
  unfold final
  rw [Function.update_of_ne (by decide), Function.update_of_ne (by decide), Function.update_self]
theorem final_1 (c : Dev nD) : final m c main_v9_1 = result1 m c := by
  unfold final
  rw [Function.update_of_ne (by decide), Function.update_self]
theorem final_2 (c : Dev nD) : final m c main_v9_2 = result2 m c := by
  unfold final
  rw [Function.update_self]

/-- The region's resources, the written arrays at `G`. -/
abbrev region (G : (c : Dev nD) → (b : Ref sig .tc) → Buf (Elt F) ((c : Thread nD τ).loc b)) (c : Dev nD) : sProp 𝕄 :=
  Pipeline.ΦDRV osem cfg0.spec reads writes (V m) G c

/-- They are the kernel's resources, buffer by buffer. -/
theorem region_eq (G : (c : Dev nD) → (b : Ref sig .tc) → Buf (Elt F) ((c : Thread nD τ).loc b)) (c : Dev nD) :
    region m G c = iprop(flatBufs place0 place1 place2 c ∗ flatSems place0 place1 place2 cc0_scratch18 c
      ∗ flatReads place0 place1 place2 c (V m c) ∗ flatResults place0 place1 place2 c (G c main_v9_0) (G c main_v9_1) (G c main_v9_2)) := by
  unfold region Pipeline.ΦDRV
  rw [scopedRest0_eq,
    Pipeline.ownSems0_eq_of_list c osem [0, 1, 2, 3, 4, 5, 6, 7, 8, 9, 10, 11, 12, 13, 14, 15, 16, 17, 18, 19, 20, 21, 22, 23] (by decide) (by decide),
    bigSep_eq_bigSepL_of_eq (S := reads) [main_v0, main_v1, main_v2, main_v3, main_v4, main_v5, main_v6, main_v7, main_v8] (by decide) (by decide),
    bigSep_eq_bigSepL_of_eq (S := writes) [main_v9_0, main_v9_1, main_v9_2] (by decide) (by decide)]
  rfl

/-- The region's proof data: before the one grid point the written arrays are as they were, after it they are final. -/
def dats (_ : Fin 1) (c : Dev nD) : Dat τ (Elt F) Unit ℕ (UD sig nD τ) ℕ cfg0 c where
  A w := w.elim0
  after w t := w.elim0
  Φ t := region m (if t.val = 0 then V m else final m) c
  q _ := fullShare
  owed _ := 0

/-- The region's resources at its start, scale by scale. -/
theorem enter (c : Dev nD) : region m (V m) c ⊢ (iprop(place0.held c (V m c) (V m c place0.o.view.ref)
    ∗ place1.held c (V m c) (V m c place1.o.view.ref) ∗ place2.held c (V m c) (V m c place2.o.view.ref)
    ∗ sixZeros place0 place1 place2 cc0_scratch18 c) : sProp 𝕄) :=
  (Entails.of_eq (region_eq m (V m) c)).trans (gather place0 place1 place2 cc0_scratch18 c (V m c) _ _ _)

/-- The kernel's resources after it, as the region's at its end. -/
theorem leave (c : Dev nD) : (iprop(place0.held c (V m c) (place0.result c (V m c))
    ∗ place1.held c (V m c) (place1.result c (V m c)) ∗ place2.held c (V m c) (place2.result c (V m c))
    ∗ sixZeros place0 place1 place2 cc0_scratch18 c) : sProp 𝕄) ⊢ region m (final m) c := by
  refine (scatter place0 place1 place2 cc0_scratch18 c (V m c) _ _ _).trans (Entails.of_eq ?_)
  rw [region_eq, final_0, final_1, final_2]
  rfl

/-- No variants are needed: nothing loops. -/
def 𝒱₀ : Variants := Variants.none

theorem prog_eq (t : Fin cfg0.N) : (defs₀ (F := F)) .tc cfg0.body (cfg0.bodyArgs t (cfg0.slots t)) = bodyAt0 t := rfl

/-- There is no window. -/
theorem no_windows (Φ : Fin 0 → sProp (MT nD τ sig Unit (Elt F) ℕ (UD sig nD τ) ℕ)) : bigSep Finset.univ Φ = iprop(emp) := by
  rw [Finset.univ_eq_empty]; exact bigSep_empty

set_option backward.isDefEq.respectTransparency.types false in
/-- The body at the one grid point takes the region's start to its end. -/
theorem body_obligation (c : Dev nD) : BodyObligation (dats (F := F) m 0 c) (defs₀ (F := F)) 𝒱₀ () Set.univ := fun t => by
  obtain rfl : t = t0_0 := fin_N0 t
  rw [no_windows, no_windows]
  rw [show (dats m 0 c).Φ t0_0.castSucc = region m (V m) c from rfl, show (dats m 0 c).Φ t0_0.succ = region m (final m) c from rfl]
  unfold Dat.owesAt Pipeline.owesWithin
  rw [show (dats m 0 c).owed t0_0.castSucc = 0 from rfl, show (dats m 0 c).owed t0_0.succ = 0 from rfl]
  iintro ⟨HΦ, ⟨%W, -, HW⟩, -⟩
  ihave HΦ := (enter m c) $$ HΦ
  icases HΦ with ⟨H0, H1, H2, HS⟩
  sl_rw [prog_eq t0_0]
  sl_rw [body_eq t0_0]
  iapply (wp_kernel place0 place1 place2 cc0_scratch18 c (V m c) defs₀ 𝒱₀ _)
  isplitl [H0]; · iexact H0
  isplitl [H1]; · iexact H1
  isplitl [H2]; · iexact H2
  isplitl [HS]; · iexact HS
  unfold Scale.owed
  isplitl [HW]; · iexists W; iexact HW
  iintro H0 H1 H2 HS ⟨%W', HW⟩
  isplitl [H0 H1 H2 HS]
  · iapply (leave m c)
    isplitl [H0]; · iexact H0
    isplitl [H1]; · iexact H1
    isplitl [H2]; · iexact H2
    iexact HS
  isplitl [HW]
  · iexists W'; isplitr; · ipureintro; exact fun _ _ => Or.inl trivial
    iexact HW
  iempintro

/-! ## The run -/

set_option maxHeartbeats 800000 in
/-- @main is the host lines before the region, the region, and the host lines after it. -/
theorem main_around : Pipeline.HMainK (Ix := Unit) (Name := ℕ) (U := UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents of the device's buffers between the region and the host lines after it. -/
def between (c : Dev nD) : Valuation τ sig (Elt F) :=
  Pipeline.withArrays cfg0.spec c (Pipeline.withR (V0 m c) writes c (final m c)) fun w => (dats m 0 c).arrAt w cfg0.N

theorem between_eq (c : Dev nD) (b : Ref sig .tc) : between m c (Proc.devRef .tc b)
    = Pipeline.withR (V0 m c) writes c (final m c) (Proc.devRef .tc b) :=
  Pipeline.withArrays_of_ne _ c _ _ b (fun w => w.elim0)
theorem between_written (c : Dev nD) (b : Ref sig .tc) (hb : b ∈ writes) : between m c (Proc.devRef .tc b) = final m c b :=
  (between_eq m c b).trans (Pipeline.withR_of_mem _ _ _ _ b hb)
theorem between_kept (c : Dev nD) (b : Ref sig .tc) (hb : b ∉ writes) : between m c (Proc.devRef .tc b) = V m c b :=
  (between_eq m c b).trans (Pipeline.withR_of_not_mem _ _ _ _ b hb)

set_option backward.isDefEq.respectTransparency.types false in
/-- Every run ends with each array outside the region's own at what the last host lines make of it, and every counter at zero. -/
theorem run : θ_run defs (onTc (τ := τ) (main (F := F))) (s₀ m ρ) (fun r =>
    (∀ c : Dev nD, ∀ b ∈ Pipeline.restRefs sig cfg0.spec, r.2.mem ((c : Thread nD τ).loc b)
      = StableHlo.after hostOps1 (between m c) (Proc.devRef .tc b)) ∧ r.2.sem = fun _ => 0) :=
  Pipeline.θ_run_frame_dmaR_aroundV cfgs (dats m) 0 launch0 osem defs₀ 𝒱₀ ownSemFacts reads writes (by decide) (by decide) m ρ main
    (fun c => (body_obligation m c).loose) (fun c => (dats m 0 c).share_full fun _ => rfl) (fun _ _ => rfl)
    (V0 m) [hostOps1] sfx_sub sfx_fresh sfx_keeps (final m) (main_around m) (fun c w => w.elim0)
    (fun c => .rfl) (fun c => .rfl) _ (fun r h => ⟨fun c b hb => (h.1 c).2 b hb, h.2⟩)

/-- The last host lines write the three results only, -/
theorem ends_kept (c : Dev nD) (b : Ref sig .tc) (hw : b ∉ writes) (h0 : b ≠ main_v10) (h1 : b ≠ main_v11) (h2 : b ≠ main_v12) :
    StableHlo.after hostOps1 (between m c) (Proc.devRef .tc b) = V m c b := by
  refine (StableHlo.after_of_forall_not_mem (b := Proc.devRef .tc b) _ _ (List.forall_iff_forall_mem.mp ?_)).trans (between_kept m c b hw)
  simp only [hostOps1, List.Forall, StableHlo.reshape_writes, Finset.mem_singleton]
  exact ⟨StableHlo.devRef_ne_of_ne h0, StableHlo.devRef_ne_of_ne h1, StableHlo.devRef_ne_of_ne h2⟩

/-- each the kernel's, reshaped. -/
theorem ends_0 (c : Dev nD) : StableHlo.after hostOps1 (between m c) (Proc.devRef .tc main_v10)
    = shapeCast S16x255x64x64 (result0 m c) shapeCasts_S16x255x4096_S16x255x64x64 := by
  rw [← final_0, ← between_written m c main_v9_0 (by decide)]
  after_results
  rfl
theorem ends_1 (c : Dev nD) : StableHlo.after hostOps1 (between m c) (Proc.devRef .tc main_v11)
    = shapeCast S16x255x32x32 (result1 m c) shapeCasts_S16x255x1024_S16x255x32x32 := by
  rw [← final_1, ← between_written m c main_v9_1 (by decide)]
  after_results
  rfl
theorem ends_2 (c : Dev nD) : StableHlo.after hostOps1 (between m c) (Proc.devRef .tc main_v12)
    = shapeCast S16x255x16x16 (result2 m c) shapeCasts_S16x255x256_S16x255x16x16 := by
  rw [← final_2, ← between_written m c main_v9_2 (by decide)]
  after_results
  rfl

/-- The three results and the nine arguments at the end of a run. -/
structure Ends (r : PUnit × MemSt nD τ sig (Elt F)) (c : Dev nD) : Prop where
  out0 : r.2.mem ((c : Thread nD τ).loc main_v10) = shapeCast S16x255x64x64 (result0 m c) shapeCasts_S16x255x4096_S16x255x64x64
  out1 : r.2.mem ((c : Thread nD τ).loc main_v11) = shapeCast S16x255x32x32 (result1 m c) shapeCasts_S16x255x1024_S16x255x32x32
  out2 : r.2.mem ((c : Thread nD τ).loc main_v12) = shapeCast S16x255x16x16 (result2 m c) shapeCasts_S16x255x256_S16x255x16x16
  args : r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)

/-- THE LAUNCH: every run ends so, with every counter at zero. -/
theorem run_ends : θ_run defs (onTc (τ := τ) (main (F := F))) (s₀ m ρ) (fun r => (∀ c : Dev nD, Ends m r c) ∧ r.2.sem = fun _ => 0) := by
  refine (θ_run defs _ _).mono (fun r h => ⟨fun c => ?_, h.2⟩) (run m ρ)
  have kept : ∀ b : Ref sig .tc, b ∈ Pipeline.restRefs sig cfg0.spec → b ∉ writes → b ≠ main_v10 → b ≠ main_v11 → b ≠ main_v12 →
      r.2.mem ((c : Thread nD τ).loc b) = V m c b := fun b hb hw h0 h1 h2 => (h.1 c b hb).trans (ends_kept m c b hw h0 h1 h2)
  exact ⟨(h.1 c _ (by decide)).trans (ends_0 m c), (h.1 c _ (by decide)).trans (ends_1 m c), (h.1 c _ (by decide)).trans (ends_2 m c),
    (kept _ (by decide) (by decide) (by decide) (by decide) (by decide)).trans (V_main_arg0 m c),
    (kept _ (by decide) (by decide) (by decide) (by decide) (by decide)).trans (V_main_arg1 m c),
    (kept _ (by decide) (by decide) (by decide) (by decide) (by decide)).trans (V_main_arg2 m c),
    (kept _ (by decide) (by decide) (by decide) (by decide) (by decide)).trans (V_main_arg3 m c),
    (kept _ (by decide) (by decide) (by decide) (by decide) (by decide)).trans (V_main_arg4 m c),
    (kept _ (by decide) (by decide) (by decide) (by decide) (by decide)).trans (V_main_arg5 m c),
    (kept _ (by decide) (by decide) (by decide) (by decide) (by decide)).trans (V_main_arg6 m c),
    (kept _ (by decide) (by decide) (by decide) (by decide) (by decide)).trans (V_main_arg7 m c),
    (kept _ (by decide) (by decide) (by decide) (by decide) (by decide)).trans (V_main_arg8 m c)⟩

end Cert.Kernel.Launching

end
-- ==== Proof.Value.lean ====
/-
  The mathematics: at exact values, what the kernel leaves of a scale and what the reference computes of it are one array,
  `conv`: the weights' row times the channels of the pixel, plus the bias of the row.
-/
module

public import proofs.«01_k».proof.Proof.Place
public import Idealize.ShloMosaic.Lib.MatmulPlain
public import Idealize.ShloMosaic.Lib.Pipeline.Value
public import Idealize.ShloMosaic.Lib.ValueLayoutCasts

@[expose] public section

noncomputable section

namespace Cert.Proof.Stream

open Idealize.ShloMosaic Idealize.ShloMosaic.ValueIdx
open scoped BigOperators

/-- Four axes. -/
abbrev Sh4 (a b c d : ℕ) : Shape := ⟨4, ![a, b, c, d]⟩

variable {C H h w : ℕ}

/-- THE CONVOLUTION WITH A 1×1 KERNEL, at row `o` of the weights and pixel `(y, z)` of image `i`. -/
def convAt (x : (Sh4 16 C h w).Idx → EReal) (W : (Sh4 255 C 1 1).Idx → EReal) (b : (Sh1 255).Idx → EReal)
    (i : Fin 16) (o : Fin 255) (y : Fin h) (z : Fin w) : EReal :=
  (∑ k : Fin C, W (ix4 o k (0 : Fin 1) (0 : Fin 1)) * x (ix4 i k y z)) + b (ix1 o)
def conv (x : (Sh4 16 C h w).Idx → EReal) (W : (Sh4 255 C 1 1).Idx → EReal) (b : (Sh1 255).Idx → EReal) :
    (Sh4 16 255 h w).Idx → EReal :=
  fun j => convAt x W b (j 0) (j 1) (j 2) (j 3)

/-! ## Reshapes -/

/-- The place of a pixel in the flattened image. -/
def flat (e : h * w = H) (y : Fin h) (z : Fin w) : Fin H := ⟨y.val * w + z.val, by
  have h1 : (y.val + 1) * w ≤ h * w := Nat.mul_le_mul_right w y.isLt
  have h2 := z.isLt
  rw [Nat.add_mul, Nat.one_mul] at h1
  omega⟩

/-- A flattened image is the image, pixel by pixel, -/
theorem flat_read {α : Type} {A B : ℕ} (e : h * w = H) (x : (Sh4 A B h w).Idx → α) (hc : (Sh4 A B h w).ShapeCasts (Sh3 A B H))
    (i : Fin A) (k : Fin B) (y : Fin h) (z : Fin w) : shapeCast (Sh3 A B H) x hc (ix3 i k (flat e y z)) = x (ix4 i k y z) := by
  refine shapeCast_apply _ _ _ _ ?_
  rw [Shape.rowMajor_val_four, Shape.rowMajor_val_three]
  show ((i.val * B + k.val) * h + y.val) * w + z.val = (i.val * B + k.val) * H + (y.val * w + z.val)
  rw [← e, Nat.add_mul, Nat.mul_assoc, Nat.add_assoc]

/-- and an image read off a flattened one the same. -/
theorem unflat_read {α : Type} {A B : ℕ} (e : h * w = H) (x : (Sh3 A B H).Idx → α) (hc : (Sh3 A B H).ShapeCasts (Sh4 A B h w))
    (i : Fin A) (k : Fin B) (y : Fin h) (z : Fin w) : shapeCast (Sh4 A B h w) x hc (ix4 i k y z) = x (ix3 i k (flat e y z)) := by
  refine shapeCast_apply _ _ _ _ ?_
  rw [Shape.rowMajor_val_four, Shape.rowMajor_val_three]
  show (i.val * B + k.val) * H + (y.val * w + z.val) = ((i.val * B + k.val) * h + y.val) * w + z.val
  rw [← e, Nat.add_mul (_ * h), Nat.mul_assoc, Nat.add_assoc]

/-- The weights as a matrix. -/
theorem weights_read {α : Type} (W : (Sh4 255 C 1 1).Idx → α) (hc : (Sh4 255 C 1 1).ShapeCasts (Sh2 255 C)) (o : Fin 255) (k : Fin C) :
    shapeCast (Sh2 255 C) W hc (ix2 o k) = W (ix4 o k (0 : Fin 1) (0 : Fin 1)) := by
  refine shapeCast_apply _ _ _ _ ?_
  rw [Shape.rowMajor_val_four, Shape.rowMajor_val_two]
  show ((o.val * C + k.val) * 1 + 0) * 1 + 0 = o.val * C + k.val
  omega

/-! ## The kernel's side -/

/-- An image as the kernel computes it. -/
theorem image_at (s : Shapes C H) (W : FVec Ideal (Sh2 255 C) .f32) (x : FVec Ideal (Sh2 C H) .f32) (b : FVec Ideal (Sh2 255 1) .f32)
    (o : Fin 255) (p : Fin H) :
    image s W x b (ix2 o p) = (∑ k : Fin C, W (ix2 o k) * x (ix2 k p)) + b (ix2 o (0 : Fin 1)) := by
  have hm : matmul s.dot none W x (constant (Sh2 255 H) .f32 0x00000000#32) (ix2 o p) = ∑ k : Fin C, W (ix2 o k) * x (ix2 k p) := by
    refine (Ideal.matmul_plain_apply none W x (constant (Sh2 255 H) .f32 0x00000000#32) o p).trans ?_
    show Ideal.ofBits .f32 0x00000000#32 + _ = _
    rw [Ideal.ofBits_zero_f32, zero_add]
  have hb : broadcastTo (Sh2 255 H) b s.bc (ix2 o p) = b (ix2 o (0 : Fin 1)) := by
    refine broadcastTo_apply _ _ _ _ fun a => ?_
    match a with
    | ⟨0, _⟩ => rfl
    | ⟨1, _⟩ => rfl
  show matmul s.dot none W x (constant (Sh2 255 H) .f32 0x00000000#32) (ix2 o p) + broadcastTo (Sh2 255 H) b s.bc (ix2 o p) = _
  rw [hm, hb]

/-- What the kernel leaves of a scale, reshaped, is the convolution of the arguments. -/
theorem kernel_conv (s : Shapes C H) (e : h * w = H) (x : FVec Ideal (Sh4 16 C h w) .f32) (W : FVec Ideal (Sh4 255 C 1 1) .f32)
    (b : FVec Ideal (Sh1 255) .f32) (cx : (Sh4 16 C h w).ShapeCasts (Sh3 16 C H)) (cw : (Sh4 255 C 1 1).ShapeCasts (Sh2 255 C))
    (cb : (Sh1 255).ShapeCasts (Sh2 255 1)) (co : (Sh3 16 255 H).ShapeCasts (Sh4 16 255 h w)) :
    shapeCast (Sh4 16 255 h w) (images s (shapeCast (Sh3 16 C H) x cx) (shapeCast (Sh2 255 C) W cw) (shapeCast (Sh2 255 1) b cb)) co
      = conv x W b := by
  funext j
  obtain ⟨i, o, y, z, rfl⟩ : ∃ (i : Fin 16) (o : Fin 255) (y : Fin h) (z : Fin w), j = ix4 i o y z := ⟨_, _, _, _, eq_ix4 j⟩
  rw [unflat_read e]
  refine (image_at s _ _ _ o (flat e y z)).trans ?_
  rw [shapeCast_a_a1_apply]
  refine congrArg (· + b (ix1 o)) (Finset.sum_congr rfl fun k _ => ?_)
  rw [weights_read]
  exact congrArg (W (ix4 o k (0 : Fin 1) (0 : Fin 1)) * ·) (flat_read e x cx i k y z)

/-! ## The reference's side -/

/-- The product of the reference: the weights' rows times the channels of an image. -/
def refDot (wf : DotDims.WF (Sh2 255 C) (Sh4 16 C h w) (Sh4 255 16 h w) [1] [1] [0] [0, 2, 3] [] []) :
    DotDims (Sh2 255 C) (Sh4 16 C h w) (Sh4 255 16 h w) where
  lhsContracting := [1]
  rhsContracting := [1]
  lhsNonContracting := [0]
  rhsNonContracting := [0, 2, 3]
  lhsBatch := []
  rhsBatch := []
  wf := wf

theorem refDot_at (wf : DotDims.WF (Sh2 255 C) (Sh4 16 C h w) (Sh4 255 16 h w) [1] [1] [0] [0, 2, 3] [] [])
    (W : FVec Ideal (Sh2 255 C) .f32) (x : FVec Ideal (Sh4 16 C h w) .f32) (o : Fin 255) (i : Fin 16) (y : Fin h) (z : Fin w) :
    Host.dotGeneral (refDot wf) none W x (ix4 o i y z) = ∑ k : Fin C, W (ix2 o k) * x (ix4 i k y z) := by
  show FloatOps.dotGeneral _ none _ W x (ix4 o i y z) = _
  rw [Ideal.dotGeneral_apply, ← Equiv.sum_comp (contrEquiv1 (refDot wf) C rfl rfl).symm]
  refine Finset.sum_congr rfl fun k _ => ?_
  have hk := contrEquiv1_symm_val (refDot wf) C rfl rfl k
  have el : (refDot wf).lhsIdx (ix4 o i y z) ((contrEquiv1 (refDot wf) C rfl rfl).symm k) = ix2 o k := by
    funext a; apply Fin.ext
    match a with
    | ⟨0, _⟩ => rfl
    | ⟨1, _⟩ => exact hk
  have er : (refDot wf).rhsIdx (ix4 o i y z) ((contrEquiv1 (refDot wf) C rfl rfl).symm k) = ix4 i k y z := by
    funext a; apply Fin.ext
    match a with
    | ⟨0, _⟩ => rfl
    | ⟨1, _⟩ => exact hk
    | ⟨2, _⟩ => rfl
    | ⟨3, _⟩ => rfl
  rw [el, er]

/-- What the reference computes of a scale is the convolution of the arguments. -/
theorem reference_conv (wf : DotDims.WF (Sh2 255 C) (Sh4 16 C h w) (Sh4 255 16 h w) [1] [1] [0] [0, 2, 3] [] [])
    (x : FVec Ideal (Sh4 16 C h w) .f32) (W : FVec Ideal (Sh4 255 C 1 1) .f32) (b : FVec Ideal (Sh1 255) .f32)
    (cw : (Sh4 255 C 1 1).ShapeCasts (Sh2 255 C)) (ht : (Sh4 255 16 h w).Transposes [1, 0, 2, 3] (Sh4 16 255 h w))
    (hb : (Sh1 255).BroadcastsInDim (Sh4 1 255 1 1) ![1]) (hb' : (Sh4 1 255 1 1).BroadcastsInDim (Sh4 16 255 h w) ![0, 1, 2, 3]) :
    addf (transpose (Sh4 16 255 h w) [1, 0, 2, 3] (Host.dotGeneral (refDot wf) none (shapeCast (Sh2 255 C) W cw) x) ht)
      (broadcastInDim (Sh4 16 255 h w) ![0, 1, 2, 3] hb' (broadcastInDim (Sh4 1 255 1 1) ![1] hb b)) = conv x W b := by
  funext j
  obtain ⟨i, o, y, z, rfl⟩ : ∃ (i : Fin 16) (o : Fin 255) (y : Fin h) (z : Fin w), j = ix4 i o y z := ⟨_, _, _, _, eq_ix4 j⟩
  have e1 : transpose (Sh4 16 255 h w) [1, 0, 2, 3] (Host.dotGeneral (refDot wf) none (shapeCast (Sh2 255 C) W cw) x) ht (ix4 i o y z)
      = ∑ k : Fin C, W (ix4 o k (0 : Fin 1) (0 : Fin 1)) * x (ix4 i k y z) := by
    refine (transpose_apply _ _ ht _ (ix4 o i y z) fun a => ?_).trans ((refDot_at wf _ x o i y z).trans ?_)
    · match a with
      | ⟨0, _⟩ => rfl
      | ⟨1, _⟩ => rfl
      | ⟨2, _⟩ => rfl
      | ⟨3, _⟩ => rfl
    · exact Finset.sum_congr rfl fun k _ => by rw [weights_read]
  have e2 : broadcastInDim (Sh4 16 255 h w) ![0, 1, 2, 3] hb' (broadcastInDim (Sh4 1 255 1 1) ![1] hb b) (ix4 i o y z) = b (ix1 o) := by
    refine (broadcastInDim_apply _ hb' _ _ (ix4 (0 : Fin 1) o (0 : Fin 1) (0 : Fin 1)) fun a => ?_).trans
      (broadcastInDim_apply _ hb _ _ (ix1 o) fun a => ?_)
    · match a with
      | ⟨0, _⟩ => rfl
      | ⟨1, _⟩ => rfl
      | ⟨2, _⟩ => rfl
      | ⟨3, _⟩ => rfl
    · match a with
      | ⟨0, _⟩ => rfl
  exact congrArg₂ (fun a b : EReal => a + b) e1 e2

end Cert.Proof.Stream

end
-- ==== Proof.KernelValue.lean ====
/-
  The three results of the kernel at exact values: each is the convolution of its scale's arguments.
-/
module

public import proofs.«01_k».proof.Proof.KernelLaunch
public import proofs.«01_k».proof.Proof.Value

@[expose] public section

noncomputable section

namespace Cert.Kernel.Launching

open Cert.Kernel Cert.Kernel.Gen Cert.Proof.Stream
open Idealize.ShloMosaic Idealize.ShloMosaic.TcCoe Idealize.ShloMosaic.Tactic
open Idealize.SL Idealize.SL.Sem

variable {F : FTy → Type} [FloatOps F] (m : (ℓ : Loc nD τ sig) → Buf (Elt F) ℓ) (c : Dev nD)

/-! ## The arrays that the kernel reads are the arguments, reshaped -/

theorem V_v0 : V m c main_v0 = shapeCast S16x256x4096 (m ((c : Thread nD τ).loc main_arg0)) shapeCasts_S16x256x64x64_S16x256x4096 := by
  show StableHlo.after hostOps0 (fun b => m (c, b)) (Proc.devRef .tc main_v0) = _
  after_results; rfl
theorem V_v1 : V m c main_v1 = shapeCast S16x512x1024 (m ((c : Thread nD τ).loc main_arg1)) shapeCasts_S16x512x32x32_S16x512x1024 := by
  show StableHlo.after hostOps0 (fun b => m (c, b)) (Proc.devRef .tc main_v1) = _
  after_results; rfl
theorem V_v2 : V m c main_v2 = shapeCast S16x1024x256 (m ((c : Thread nD τ).loc main_arg2)) shapeCasts_S16x1024x16x16_S16x1024x256 := by
  show StableHlo.after hostOps0 (fun b => m (c, b)) (Proc.devRef .tc main_v2) = _
  after_results; rfl
theorem V_v3 : V m c main_v3 = shapeCast S255x256 (m ((c : Thread nD τ).loc main_arg3)) shapeCasts_S255x256x1x1_S255x256 := by
  show StableHlo.after hostOps0 (fun b => m (c, b)) (Proc.devRef .tc main_v3) = _
  after_results; rfl
theorem V_v4 : V m c main_v4 = shapeCast S255x512 (m ((c : Thread nD τ).loc main_arg5)) shapeCasts_S255x512x1x1_S255x512 := by
  show StableHlo.after hostOps0 (fun b => m (c, b)) (Proc.devRef .tc main_v4) = _
  after_results; rfl
theorem V_v5 : V m c main_v5 = shapeCast S255x1024 (m ((c : Thread nD τ).loc main_arg7)) shapeCasts_S255x1024x1x1_S255x1024 := by
  show StableHlo.after hostOps0 (fun b => m (c, b)) (Proc.devRef .tc main_v5) = _
  after_results; rfl
theorem V_v6 : V m c main_v6 = shapeCast S255x1 (m ((c : Thread nD τ).loc main_arg4)) shapeCasts_S255_S255x1 := by
  show StableHlo.after hostOps0 (fun b => m (c, b)) (Proc.devRef .tc main_v6) = _
  after_results; rfl
theorem V_v7 : V m c main_v7 = shapeCast S255x1 (m ((c : Thread nD τ).loc main_arg6)) shapeCasts_S255_S255x1 := by
  show StableHlo.after hostOps0 (fun b => m (c, b)) (Proc.devRef .tc main_v7) = _
  after_results; rfl
theorem V_v8 : V m c main_v8 = shapeCast S255x1 (m ((c : Thread nD τ).loc main_arg8)) shapeCasts_S255_S255x1 := by
  show StableHlo.after hostOps0 (fun b => m (c, b)) (Proc.devRef .tc main_v8) = _
  after_results; rfl

/-! ## The results are the images of those -/

theorem result0_eq : result0 m c = images shapes0 (V m c main_v0) (V m c main_v3) (V m c main_v6) :=
  View.read_write_univ (v := (place0.o).view) (V m c main_v9_0) (place0.value c (V m c))
theorem result1_eq : result1 m c = images shapes1 (V m c main_v1) (V m c main_v4) (V m c main_v7) :=
  View.read_write_univ (v := (place1.o).view) (V m c main_v9_1) (place1.value c (V m c))
theorem result2_eq : result2 m c = images shapes2 (V m c main_v2) (V m c main_v5) (V m c main_v8) :=
  View.read_write_univ (v := (place2.o).view) (V m c main_v9_2) (place2.value c (V m c))

end Cert.Kernel.Launching

namespace Cert.Kernel.Launching

open Cert.Kernel Cert.Kernel.Gen Cert.Proof.Stream
open Idealize.ShloMosaic Idealize.ShloMosaic.TcCoe

variable (m : (ℓ : Loc nD τ sig) → Buf (Elt Ideal) ℓ) (c : Dev nD)

/-! ## At exact values: the convolutions -/

theorem out0_eq : shapeCast S16x255x64x64 (result0 m c) shapeCasts_S16x255x4096_S16x255x64x64
    = conv (C := 256) (h := 64) (w := 64) (m ((c : Thread nD τ).loc main_arg0)) (m ((c : Thread nD τ).loc main_arg3)) (m ((c : Thread nD τ).loc main_arg4)) := by
  rw [result0_eq, V_v0, V_v3, V_v6]
  exact kernel_conv shapes0 (by decide) _ _ _ _ _ _ _
theorem out1_eq : shapeCast S16x255x32x32 (result1 m c) shapeCasts_S16x255x1024_S16x255x32x32
    = conv (C := 512) (h := 32) (w := 32) (m ((c : Thread nD τ).loc main_arg1)) (m ((c : Thread nD τ).loc main_arg5)) (m ((c : Thread nD τ).loc main_arg6)) := by
  rw [result1_eq, V_v1, V_v4, V_v7]
  exact kernel_conv shapes1 (by decide) _ _ _ _ _ _ _
theorem out2_eq : shapeCast S16x255x16x16 (result2 m c) shapeCasts_S16x255x256_S16x255x16x16
    = conv (C := 1024) (h := 16) (w := 16) (m ((c : Thread nD τ).loc main_arg2)) (m ((c : Thread nD τ).loc main_arg7)) (m ((c : Thread nD τ).loc main_arg8)) := by
  rw [result2_eq, V_v2, V_v5, V_v8]
  exact kernel_conv shapes2 (by decide) _ _ _ _ _ _ _

end Cert.Kernel.Launching

end
-- ==== Proof.Idealized.lean ====
/-
  The idealized program is the kernel's text again, under its own names: the kernel's run is its run.
-/
module

public import proofs.«01_k».proof.Proof.KernelValue
public import proofs.«01_k».proof.Proof.Gen.KernelIdeal

@[expose] public section

noncomputable section

namespace Cert.Idealized

open Cert.Proof.Stream
open Idealize.ShloMosaic Idealize.ShloMosaic.TcCoe
open Idealize.SL Idealize.SL.Sem

variable {F : FTy → Type} [FloatOps F]

/-- The two programs are one. -/
theorem sig_eq : Cert.Kernel.sig = Cert.KernelIdeal.sig := rfl
theorem main_eq : Cert.Kernel.main (F := F) = Cert.KernelIdeal.main (F := F) := rfl
theorem defs_eq : Cert.Kernel.defs (F := F) = Cert.KernelIdeal.defs (F := F) := rfl

variable (m : (ℓ : Loc Cert.KernelIdeal.nD Cert.KernelIdeal.τ Cert.KernelIdeal.sig) → Buf (Elt F) ℓ) (ρ : Dev Cert.KernelIdeal.nD → PrngReg)

/-- Every run of the idealized program ends as the kernel's. -/
theorem run_ends : θ_run Cert.KernelIdeal.defs (onTc (τ := Cert.KernelIdeal.τ) (Cert.KernelIdeal.main (F := F))) ⟨m, fun _ => 0, ρ⟩
    (fun r => (∀ c : Dev Cert.KernelIdeal.nD, Cert.Kernel.Launching.Ends m r c) ∧ r.2.sem = fun _ => 0) :=
  defs_eq (F := F) ▸ main_eq (F := F) ▸ Cert.Kernel.Launching.run_ends m ρ

end Cert.Idealized

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Idealized
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Proof.Stream

/-- The kernel runs to the end, its arguments and counters as they were. -/
theorem frame_kernel : Cert.quiescent_Kernel := fun m ρ _ =>
  (θ_run Cert.Kernel.defs _ _).mono (fun r h => ⟨fun c => (h.1 c).args, h.2⟩) (Cert.Kernel.Launching.run_ends (F := Bits) m ρ)

/-- So does the idealized program, -/
theorem frame_ideal : Cert.quiescent_KernelIdeal := fun m ρ _ =>
  (θ_run Cert.KernelIdeal.defs _ _).mono (fun r h => ⟨fun c => (h.1 c).args, h.2⟩) (Cert.Idealized.run_ends (F := Ideal) m ρ)

/-- and the reference, which has no counter. -/
theorem frame_reference : Cert.quiescent_ReferenceIdeal := fun m ρ _ =>
  (θ_run Cert.ReferenceIdeal.defs _ _).mono
    (fun r h => ⟨fun c => (h c).2.2.2, sem_eq_zero_of_no_sems (by decide) r.2⟩) (Cert.ReferenceIdeal.Value.run (F := Ideal) m ρ)

/-- The kernel and the reference leave the same three arrays: the convolutions of the arguments. -/
theorem same_results : Cert.algebraic_KernelIdeal_ReferenceIdeal := by
  intro m ρ m' ρ' _ same
  refine ⟨fun c => conv (C := 256) (h := 64) (w := 64) (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
    fun c => conv (C := 512) (h := 32) (w := 32) (m ((c.tc : Thread Cert.KernelIdeal.nD Cert.KernelIdeal.τ).loc Cert.KernelIdeal.main_arg1))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
    fun c => conv (C := 1024) (h := 16) (w := 16) (m ((c.tc : Thread Cert.KernelIdeal.nD Cert.KernelIdeal.τ).loc Cert.KernelIdeal.main_arg2))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · refine (θ_run Cert.KernelIdeal.defs _ _).mono (fun r h c => ?_) (Cert.Idealized.run_ends (F := Ideal) m ρ)
    exact ⟨(h.1 c).out0.trans (Cert.Kernel.Launching.out0_eq m c), (h.1 c).out1.trans (Cert.Kernel.Launching.out1_eq m c),
      (h.1 c).out2.trans (Cert.Kernel.Launching.out2_eq m c), (h.1 c).args⟩
  · refine (θ_run Cert.ReferenceIdeal.defs _ _).mono (fun r h c => ?_) (Cert.ReferenceIdeal.Value.run (F := Ideal) m' ρ')
    obtain ⟨a0, a1, a2, a3, a4, a5, a6, a7, a8⟩ := same c
    refine ⟨(h c).1.trans ?_, (h c).2.1.trans ?_, (h c).2.2.1.trans ?_, (h c).2.2.2⟩
    · rw [a0, a3, a4]
      exact reference_conv _ _ _ _ _ _ _ _
    · rw [a1, a5, a6]
      exact reference_conv _ _ _ _ _ _ _ _
    · rw [a2, a7, a8]
      exact reference_conv _ _ _ _ _ _ _ _

theorem claim : Cert.Claim := ⟨Cert.Kernel.Gen.facts, Cert.KernelIdeal.Gen.facts, Cert.ReferenceIdeal.Gen.facts,
  frame_kernel, frame_ideal, frame_reference, trivial, same_results⟩

end Cert.Proof

end
